-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S819200x64 : Shape := ⟨2, ![819200, 64]⟩
abbrev S16384x64 : Shape := ⟨2, ![16384, 64]⟩
abbrev S16384x50 : Shape := ⟨2, ![16384, 50]⟩
abbrev S_ : Shape := ⟨0, ![]⟩

class Facts : Prop where
  bcast_S_S819200x64 : S_.BroadcastsInDim S819200x64 (![] : Fin 0 → Fin S819200x64.rank)
  reducesTo_S819200x64_S_d0_1 : S819200x64.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_

variable [Facts]

def fn {F : FTy → Type} [FloatOps F] (main_arg0 : FVec F S819200x64 .f32) (main_arg1 : FVec F S16384x64 .f32) (main_arg2 : FVec F S16384x64 .f32) (main_arg3 : IVec S16384x50 32) : IVec S_ 1 :=
  let main_v0 : FVec F S819200x64 .f32 := Host.absf main_arg0
  let main_cst : FVec F S_ .f32 := constant S_ .f32 0x7F800000#32
  let main_v1 : FVec F S819200x64 .f32 := broadcastInDim S819200x64 ![] bcast_S_S819200x64 main_cst
  let main_v2 : IVec S819200x64 1 := cmpf .olt main_v0 main_v1
  let main_c : IVec S_ 1 := constantI S_ 1 1#1
  let main_v3 : IVec S_ 1 := (fun x v => Host.reduce IntOp.andi x v reducesTo_S819200x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S16384x64 .f32 := Host.absf main_arg2
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  main_v13
-- ==== Kernel.lean ====
abbrev S819200x64 : Shape := ⟨2, ![819200, 64]⟩
abbrev S16384x64 : Shape := ⟨2, ![16384, 64]⟩
abbrev S16384x50 : Shape := ⟨2, ![16384, 50]⟩
abbrev S64x819200 : Shape := ⟨2, ![64, 819200]⟩
abbrev S8x8x6400x128 : Shape := ⟨4, ![8, 8, 6400, 128]⟩
abbrev S8x6400x8x128 : Shape := ⟨4, ![8, 6400, 8, 128]⟩
abbrev S52428800 : Shape := ⟨1, ![52428800]⟩
abbrev S4x16384x16 : Shape := ⟨3, ![4, 16384, 16]⟩
abbrev S26624 : Shape := ⟨1, ![26624]⟩
abbrev S32x16 : Shape := ⟨2, ![32, 16]⟩
abbrev S_ : Shape := ⟨0, ![]⟩
abbrev S16 : Shape := ⟨1, ![16]⟩
abbrev S13312 : Shape := ⟨1, ![13312]⟩
abbrev S1x16 : Shape := ⟨2, ![1, 16]⟩
abbrev S1x32x16 : Shape := ⟨3, ![1, 32, 16]⟩
abbrev S1x1 : Shape := ⟨2, ![1, 1]⟩
abbrev S4x1024x16 : Shape := ⟨3, ![4, 1024, 16]⟩
abbrev S1024x64 : Shape := ⟨2, ![1024, 64]⟩
abbrev S1x1024x64 : Shape := ⟨3, ![1, 1024, 64]⟩
abbrev S1 : Shape := ⟨1, ![1]⟩
abbrev S1x1x1 : Shape := ⟨3, ![1, 1, 1]⟩
abbrev S1x1024x16 : Shape := ⟨3, ![1, 1024, 16]⟩
abbrev S1024x16 : Shape := ⟨2, ![1024, 16]⟩

abbrev nBuf : Table → Nat
  | .hbm => 11
  | .local .tc .vmem => 6
  | .local .tc .smem => 1
  | .local .scVector .vmem => 3
  | _ => 0

abbrev bufTy : (tb : Table) → Fin (nBuf tb) → BufTy
  | .hbm, ⟨0, _⟩ => ⟨S819200x64, .f32⟩
  | .hbm, ⟨1, _⟩ => ⟨S16384x64, .f32⟩
  | .hbm, ⟨2, _⟩ => ⟨S16384x64, .f32⟩
  | .hbm, ⟨3, _⟩ => ⟨S16384x50, .i32⟩
  | .hbm, ⟨4, _⟩ => ⟨S64x819200, .f32⟩
  | .hbm, ⟨5, _⟩ => ⟨S8x8x6400x128, .f32⟩
  | .hbm, ⟨6, _⟩ => ⟨S8x6400x8x128, .f32⟩
  | .hbm, ⟨7, _⟩ => ⟨S52428800, .f32⟩
  | .hbm, ⟨8, _⟩ => ⟨S4x16384x16, .f32⟩
  | .hbm, ⟨9, _⟩ => ⟨S1x1, .f32⟩
  | .hbm, ⟨10, _⟩ => ⟨S_, .f32⟩
  | .local .tc .vmem, ⟨0, _⟩ => ⟨S4x1024x16, .f32⟩
  | .local .tc .vmem, ⟨1, _⟩ => ⟨S4x1024x16, .f32⟩
  | .local .tc .vmem, ⟨2, _⟩ => ⟨S1024x64, .f32⟩
  | .local .tc .vmem, ⟨3, _⟩ => ⟨S1024x64, .f32⟩
  | .local .tc .vmem, ⟨4, _⟩ => ⟨S1024x64, .f32⟩
  | .local .tc .vmem, ⟨5, _⟩ => ⟨S1024x64, .f32⟩
  | .local .tc .smem, ⟨0, _⟩ => ⟨S1x1, .f32⟩
  | .local .scVector .vmem, ⟨0, _⟩ => ⟨S26624, .f32⟩
  | .local .scVector .vmem, ⟨1, _⟩ => ⟨S26624, .f32⟩
  | .local .scVector .vmem, ⟨2, _⟩ => ⟨S32x16, .f32⟩
  | _, _ => ⟨S819200x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v3_scv : Ref sig .scVector := ⟨.hbm, 7, rfl⟩
abbrev main_v4_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_0 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v3 : BitVec 32 := Scalar.muli v1 c200_i32
  let c0_i32 : BitVec 32 := 0#32
  let v14 : BitVec 32 := Scalar.addi v3 c0_i32
  let c1024_i32 : BitVec 32 := 1024#32
  let v15 : BitVec 32 := Scalar.muli v14 c1024_i32
  let v16 : BitVec 32 := Scalar.addi c0_i32_0 v15
  ![v16.toNat]
@[reducible] def k0_t1_loop : Scf.Loop 32 :=
  let c0_i32_7 : BitVec 32 := 0#32
  let c32_i32 : BitVec 32 := 32#32
  let v27 : BitVec 32 := Scalar.addi c0_i32_7 c32_i32
  let c1_i32 : BitVec 32 := 1#32
  ⟨c0_i32_7, v27, c1_i32⟩
def k0_off2 (i : grid0.Coords) (k0_t1 : Fin k0_t1_loop.trips) : Fin 1 → Nat :=
  let c2_i32_14 : BitVec 32 := 2#32
  let c0_i32_7 : BitVec 32 := 0#32
  let c1_i32 : BitVec 32 := 1#32
  let arg9 : BitVec 32 := Scf.iv c0_i32_7 c1_i32 k0_t1
  let c2_i32_9 : BitVec 32 := 2#32
  let v28 : BitVec 32 := Scalar.muli arg9 c2_i32_9
  let c1_i32_10 : BitVec 32 := 1#32
  let v29 : BitVec 32 := Scalar.addi v28 c1_i32_10
  let c3_i32_12 : BitVec 32 := 3#32
  let v31 : BitVec 32 := Scalar.andi v29 c3_i32_12
  let v35 : BitVec 32 := Scalar.muli c2_i32_14 v31
  let c6553600_i32_15 : BitVec 32 := 6553600#32
  let v36 : BitVec 32 := Scalar.muli v35 c6553600_i32_15
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v3 : BitVec 32 := Scalar.muli v1 c200_i32
  let c25_i32 : BitVec 32 := 25#32
  let c2_i32_11 : BitVec 32 := 2#32
  let v30 : BitVec 32 := Scalar.shrsi v29 c2_i32_11
  let v32 : BitVec 32 := Scalar.muli c25_i32 v30
  let c1_i32_13 : BitVec 32 := 1#32
  let v33 : BitVec 32 := Scalar.shrsi v32 c1_i32_13
  let v34 : BitVec 32 := Scalar.addi v3 v33
  let c1024_i32_16 : BitVec 32 := 1024#32
  let v37 : BitVec 32 := Scalar.muli v34 c1024_i32_16
  let v38 : BitVec 32 := Scalar.addi v36 v37
  ![v38.toNat]
def k0_off3 (i : grid0.Coords) (k0_t1 : Fin k0_t1_loop.trips) : Fin 1 → Nat :=
  let c2_i32_17 : BitVec 32 := 2#32
  let c0_i32_7 : BitVec 32 := 0#32
  let c1_i32 : BitVec 32 := 1#32
  let arg9 : BitVec 32 := Scf.iv c0_i32_7 c1_i32 k0_t1
  let c2_i32_9 : BitVec 32 := 2#32
  let v28 : BitVec 32 := Scalar.muli arg9 c2_i32_9
  let c1_i32_10 : BitVec 32 := 1#32
  let v29 : BitVec 32 := Scalar.addi v28 c1_i32_10
  let c3_i32_12 : BitVec 32 := 3#32
  let v31 : BitVec 32 := Scalar.andi v29 c3_i32_12
  let v39 : BitVec 32 := Scalar.muli c2_i32_17 v31
  let c1_i32_18 : BitVec 32 := 1#32
  let v40 : BitVec 32 := Scalar.addi v39 c1_i32_18
  let c6553600_i32_19 : BitVec 32 := 6553600#32
  let v41 : BitVec 32 := Scalar.muli v40 c6553600_i32_19
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v3 : BitVec 32 := Scalar.muli v1 c200_i32
  let c25_i32 : BitVec 32 := 25#32
  let c2_i32_11 : BitVec 32 := 2#32
  let v30 : BitVec 32 := Scalar.shrsi v29 c2_i32_11
  let v32 : BitVec 32 := Scalar.muli c25_i32 v30
  let c1_i32_13 : BitVec 32 := 1#32
  let v33 : BitVec 32 := Scalar.shrsi v32 c1_i32_13
  let v34 : BitVec 32 := Scalar.addi v3 v33
  let c1024_i32_20 : BitVec 32 := 1024#32
  let v42 : BitVec 32 := Scalar.muli v34 c1024_i32_20
  let v43 : BitVec 32 := Scalar.addi v41 v42
  ![v43.toNat]
@[reducible] def k0_t2_loop : Scf.Loop 32 :=
  let c0_i32_37 : BitVec 32 := 0#32
  let c32_i32_38 : BitVec 32 := 32#32
  let v64 : BitVec 32 := Scalar.addi c0_i32_37 c32_i32_38
  let c1_i32_39 : BitVec 32 := 1#32
  ⟨c0_i32_37, v64, c1_i32_39⟩

def k0_chk1 (v95 : IVec S16 32) : Prop :=
  (∀ a x, ((![v95] : Fin 1 → IVec S16 32) a x).toNat < S26624.size a)
theorem k0_idx1_inb : ∀ (v95 : IVec S16 32) (k0_hw1 : k0_chk1 v95), ∀ a x, ((![v95] : Fin 1 → IVec S16 32) a x).toNat < S26624.size a := fun v95 k0_hw1 => k0_hw1

def k0_chk2 (v103 : IVec S16 32) : Prop :=
  (∀ a x, ((![v103] : Fin 1 → IVec S16 32) a x).toNat < S26624.size a)
theorem k0_idx2_inb : ∀ (v103 : IVec S16 32) (k0_hw2 : k0_chk2 v103), ∀ a x, ((![v103] : Fin 1 → IVec S16 32) a x).toNat < S26624.size a := fun v103 k0_hw2 => k0_hw2

def k0_chk3 (v111 : IVec S16 32) : Prop :=
  (∀ a x, ((![v111] : Fin 1 → IVec S16 32) a x).toNat < S26624.size a)
theorem k0_idx3_inb : ∀ (v111 : IVec S16 32) (k0_hw3 : k0_chk3 v111), ∀ a x, ((![v111] : Fin 1 → IVec S16 32) a x).toNat < S26624.size a := fun v111 k0_hw3 => k0_hw3

def k0_chk4 (v119 : IVec S16 32) : Prop :=
  (∀ a x, ((![v119] : Fin 1 → IVec S16 32) a x).toNat < S26624.size a)
theorem k0_idx4_inb : ∀ (v119 : IVec S16 32) (k0_hw4 : k0_chk4 v119), ∀ a x, ((![v119] : Fin 1 → IVec S16 32) a x).toNat < S26624.size a := fun v119 k0_hw4 => k0_hw4

def k0_chk5 (v127 : IVec S16 32) : Prop :=
  (∀ a x, ((![v127] : Fin 1 → IVec S16 32) a x).toNat < S26624.size a)
theorem k0_idx5_inb : ∀ (v127 : IVec S16 32) (k0_hw5 : k0_chk5 v127), ∀ a x, ((![v127] : Fin 1 → IVec S16 32) a x).toNat < S26624.size a := fun v127 k0_hw5 => k0_hw5

def k0_chk6 (v136 : IVec S16 32) : Prop :=
  (∀ a x, ((![v136] : Fin 1 → IVec S16 32) a x).toNat < S26624.size a)
theorem k0_idx6_inb : ∀ (v136 : IVec S16 32) (k0_hw6 : k0_chk6 v136), ∀ a x, ((![v136] : Fin 1 → IVec S16 32) a x).toNat < S26624.size a := fun v136 k0_hw6 => k0_hw6

def k0_chk7 (v145 : IVec S16 32) : Prop :=
  (∀ a x, ((![v145] : Fin 1 → IVec S16 32) a x).toNat < S26624.size a)
theorem k0_idx7_inb : ∀ (v145 : IVec S16 32) (k0_hw7 : k0_chk7 v145), ∀ a x, ((![v145] : Fin 1 → IVec S16 32) a x).toNat < S26624.size a := fun v145 k0_hw7 => k0_hw7

def k0_chk8 (v154 : IVec S16 32) : Prop :=
  (∀ a x, ((![v154] : Fin 1 → IVec S16 32) a x).toNat < S26624.size a)
theorem k0_idx8_inb : ∀ (v154 : IVec S16 32) (k0_hw8 : k0_chk8 v154), ∀ a x, ((![v154] : Fin 1 → IVec S16 32) a x).toNat < S26624.size a := fun v154 k0_hw8 => k0_hw8

def k0_chk9 (v163 : IVec S16 32) : Prop :=
  (∀ a x, ((![v163] : Fin 1 → IVec S16 32) a x).toNat < S26624.size a)
theorem k0_idx9_inb : ∀ (v163 : IVec S16 32) (k0_hw9 : k0_chk9 v163), ∀ a x, ((![v163] : Fin 1 → IVec S16 32) a x).toNat < S26624.size a := fun v163 k0_hw9 => k0_hw9

def k0_chk10 (v172 : IVec S16 32) : Prop :=
  (∀ a x, ((![v172] : Fin 1 → IVec S16 32) a x).toNat < S26624.size a)
theorem k0_idx10_inb : ∀ (v172 : IVec S16 32) (k0_hw10 : k0_chk10 v172), ∀ a x, ((![v172] : Fin 1 → IVec S16 32) a x).toNat < S26624.size a := fun v172 k0_hw10 => k0_hw10

def k0_chk11 (v181 : IVec S16 32) : Prop :=
  (∀ a x, ((![v181] : Fin 1 → IVec S16 32) a x).toNat < S26624.size a)
theorem k0_idx11_inb : ∀ (v181 : IVec S16 32) (k0_hw11 : k0_chk11 v181), ∀ a x, ((![v181] : Fin 1 → IVec S16 32) a x).toNat < S26624.size a := fun v181 k0_hw11 => k0_hw11

def k0_chk12 (v190 : IVec S16 32) : Prop :=
  (∀ a x, ((![v190] : Fin 1 → IVec S16 32) a x).toNat < S26624.size a)
theorem k0_idx12_inb : ∀ (v190 : IVec S16 32) (k0_hw12 : k0_chk12 v190), ∀ a x, ((![v190] : Fin 1 → IVec S16 32) a x).toNat < S26624.size a := fun v190 k0_hw12 => k0_hw12

def k0_chk13 (v199 : IVec S16 32) : Prop :=
  (∀ a x, ((![v199] : Fin 1 → IVec S16 32) a x).toNat < S26624.size a)
theorem k0_idx13_inb : ∀ (v199 : IVec S16 32) (k0_hw13 : k0_chk13 v199), ∀ a x, ((![v199] : Fin 1 → IVec S16 32) a x).toNat < S26624.size a := fun v199 k0_hw13 => k0_hw13

def k0_chk14 (v208 : IVec S16 32) : Prop :=
  (∀ a x, ((![v208] : Fin 1 → IVec S16 32) a x).toNat < S26624.size a)
theorem k0_idx14_inb : ∀ (v208 : IVec S16 32) (k0_hw14 : k0_chk14 v208), ∀ a x, ((![v208] : Fin 1 → IVec S16 32) a x).toNat < S26624.size a := fun v208 k0_hw14 => k0_hw14

def k0_chk15 (v217 : IVec S16 32) : Prop :=
  (∀ a x, ((![v217] : Fin 1 → IVec S16 32) a x).toNat < S26624.size a)
theorem k0_idx15_inb : ∀ (v217 : IVec S16 32) (k0_hw15 : k0_chk15 v217), ∀ a x, ((![v217] : Fin 1 → IVec S16 32) a x).toNat < S26624.size a := fun v217 k0_hw15 => k0_hw15

def k0_chk16 (v226 : IVec S16 32) : Prop :=
  (∀ a x, ((![v226] : Fin 1 → IVec S16 32) a x).toNat < S26624.size a)
theorem k0_idx16_inb : ∀ (v226 : IVec S16 32) (k0_hw16 : k0_chk16 v226), ∀ a x, ((![v226] : Fin 1 → IVec S16 32) a x).toNat < S26624.size a := fun v226 k0_hw16 => k0_hw16

def k0_chk17 (v235 : IVec S16 32) : Prop :=
  (∀ a x, ((![v235] : Fin 1 → IVec S16 32) a x).toNat < S26624.size a)
theorem k0_idx17_inb : ∀ (v235 : IVec S16 32) (k0_hw17 : k0_chk17 v235), ∀ a x, ((![v235] : Fin 1 → IVec S16 32) a x).toNat < S26624.size a := fun v235 k0_hw17 => k0_hw17

def k0_chk18 (v244 : IVec S16 32) : Prop :=
  (∀ a x, ((![v244] : Fin 1 → IVec S16 32) a x).toNat < S26624.size a)
theorem k0_idx18_inb : ∀ (v244 : IVec S16 32) (k0_hw18 : k0_chk18 v244), ∀ a x, ((![v244] : Fin 1 → IVec S16 32) a x).toNat < S26624.size a := fun v244 k0_hw18 => k0_hw18

def k0_chk19 (v253 : IVec S16 32) : Prop :=
  (∀ a x, ((![v253] : Fin 1 → IVec S16 32) a x).toNat < S26624.size a)
theorem k0_idx19_inb : ∀ (v253 : IVec S16 32) (k0_hw19 : k0_chk19 v253), ∀ a x, ((![v253] : Fin 1 → IVec S16 32) a x).toNat < S26624.size a := fun v253 k0_hw19 => k0_hw19

def k0_chk20 (v262 : IVec S16 32) : Prop :=
  (∀ a x, ((![v262] : Fin 1 → IVec S16 32) a x).toNat < S26624.size a)
theorem k0_idx20_inb : ∀ (v262 : IVec S16 32) (k0_hw20 : k0_chk20 v262), ∀ a x, ((![v262] : Fin 1 → IVec S16 32) a x).toNat < S26624.size a := fun v262 k0_hw20 => k0_hw20

def k0_chk21 (v271 : IVec S16 32) : Prop :=
  (∀ a x, ((![v271] : Fin 1 → IVec S16 32) a x).toNat < S26624.size a)
theorem k0_idx21_inb : ∀ (v271 : IVec S16 32) (k0_hw21 : k0_chk21 v271), ∀ a x, ((![v271] : Fin 1 → IVec S16 32) a x).toNat < S26624.size a := fun v271 k0_hw21 => k0_hw21

def k0_chk22 (v280 : IVec S16 32) : Prop :=
  (∀ a x, ((![v280] : Fin 1 → IVec S16 32) a x).toNat < S26624.size a)
theorem k0_idx22_inb : ∀ (v280 : IVec S16 32) (k0_hw22 : k0_chk22 v280), ∀ a x, ((![v280] : Fin 1 → IVec S16 32) a x).toNat < S26624.size a := fun v280 k0_hw22 => k0_hw22

def k0_chk23 (v289 : IVec S16 32) : Prop :=
  (∀ a x, ((![v289] : Fin 1 → IVec S16 32) a x).toNat < S26624.size a)
theorem k0_idx23_inb : ∀ (v289 : IVec S16 32) (k0_hw23 : k0_chk23 v289), ∀ a x, ((![v289] : Fin 1 → IVec S16 32) a x).toNat < S26624.size a := fun v289 k0_hw23 => k0_hw23

def k0_chk24 (v298 : IVec S16 32) : Prop :=
  (∀ a x, ((![v298] : Fin 1 → IVec S16 32) a x).toNat < S26624.size a)
theorem k0_idx24_inb : ∀ (v298 : IVec S16 32) (k0_hw24 : k0_chk24 v298), ∀ a x, ((![v298] : Fin 1 → IVec S16 32) a x).toNat < S26624.size a := fun v298 k0_hw24 => k0_hw24

def k0_chk25 (v307 : IVec S16 32) : Prop :=
  (∀ a x, ((![v307] : Fin 1 → IVec S16 32) a x).toNat < S26624.size a)
theorem k0_idx25_inb : ∀ (v307 : IVec S16 32) (k0_hw25 : k0_chk25 v307), ∀ a x, ((![v307] : Fin 1 → IVec S16 32) a x).toNat < S26624.size a := fun v307 k0_hw25 => k0_hw25

def k0_chk26 (v316 : IVec S16 32) : Prop :=
  (∀ a x, ((![v316] : Fin 1 → IVec S16 32) a x).toNat < S26624.size a)
theorem k0_idx26_inb : ∀ (v316 : IVec S16 32) (k0_hw26 : k0_chk26 v316), ∀ a x, ((![v316] : Fin 1 → IVec S16 32) a x).toNat < S26624.size a := fun v316 k0_hw26 => k0_hw26

def k0_chk27 (v325 : IVec S16 32) : Prop :=
  (∀ a x, ((![v325] : Fin 1 → IVec S16 32) a x).toNat < S26624.size a)
theorem k0_idx27_inb : ∀ (v325 : IVec S16 32) (k0_hw27 : k0_chk27 v325), ∀ a x, ((![v325] : Fin 1 → IVec S16 32) a x).toNat < S26624.size a := fun v325 k0_hw27 => k0_hw27

def k0_chk28 (v334 : IVec S16 32) : Prop :=
  (∀ a x, ((![v334] : Fin 1 → IVec S16 32) a x).toNat < S26624.size a)
theorem k0_idx28_inb : ∀ (v334 : IVec S16 32) (k0_hw28 : k0_chk28 v334), ∀ a x, ((![v334] : Fin 1 → IVec S16 32) a x).toNat < S26624.size a := fun v334 k0_hw28 => k0_hw28

def k0_chk29 (v343 : IVec S16 32) : Prop :=
  (∀ a x, ((![v343] : Fin 1 → IVec S16 32) a x).toNat < S26624.size a)
theorem k0_idx29_inb : ∀ (v343 : IVec S16 32) (k0_hw29 : k0_chk29 v343), ∀ a x, ((![v343] : Fin 1 → IVec S16 32) a x).toNat < S26624.size a := fun v343 k0_hw29 => k0_hw29

def k0_chk30 (v352 : IVec S16 32) : Prop :=
  (∀ a x, ((![v352] : Fin 1 → IVec S16 32) a x).toNat < S26624.size a)
theorem k0_idx30_inb : ∀ (v352 : IVec S16 32) (k0_hw30 : k0_chk30 v352), ∀ a x, ((![v352] : Fin 1 → IVec S16 32) a x).toNat < S26624.size a := fun v352 k0_hw30 => k0_hw30

def k0_chk31 (v361 : IVec S16 32) : Prop :=
  (∀ a x, ((![v361] : Fin 1 → IVec S16 32) a x).toNat < S26624.size a)
theorem k0_idx31_inb : ∀ (v361 : IVec S16 32) (k0_hw31 : k0_chk31 v361), ∀ a x, ((![v361] : Fin 1 → IVec S16 32) a x).toNat < S26624.size a := fun v361 k0_hw31 => k0_hw31

def k0_chk32 (v370 : IVec S16 32) : Prop :=
  (∀ a x, ((![v370] : Fin 1 → IVec S16 32) a x).toNat < S26624.size a)
theorem k0_idx32_inb : ∀ (v370 : IVec S16 32) (k0_hw32 : k0_chk32 v370), ∀ a x, ((![v370] : Fin 1 → IVec S16 32) a x).toNat < S26624.size a := fun v370 k0_hw32 => k0_hw32

def k0_chk33 (v379 : IVec S16 32) : Prop :=
  (∀ a x, ((![v379] : Fin 1 → IVec S16 32) a x).toNat < S26624.size a)
theorem k0_idx33_inb : ∀ (v379 : IVec S16 32) (k0_hw33 : k0_chk33 v379), ∀ a x, ((![v379] : Fin 1 → IVec S16 32) a x).toNat < S26624.size a := fun v379 k0_hw33 => k0_hw33

def k0_chk34 (v388 : IVec S16 32) : Prop :=
  (∀ a x, ((![v388] : Fin 1 → IVec S16 32) a x).toNat < S26624.size a)
theorem k0_idx34_inb : ∀ (v388 : IVec S16 32) (k0_hw34 : k0_chk34 v388), ∀ a x, ((![v388] : Fin 1 → IVec S16 32) a x).toNat < S26624.size a := fun v388 k0_hw34 => k0_hw34

def k0_chk35 (v397 : IVec S16 32) : Prop :=
  (∀ a x, ((![v397] : Fin 1 → IVec S16 32) a x).toNat < S26624.size a)
theorem k0_idx35_inb : ∀ (v397 : IVec S16 32) (k0_hw35 : k0_chk35 v397), ∀ a x, ((![v397] : Fin 1 → IVec S16 32) a x).toNat < S26624.size a := fun v397 k0_hw35 => k0_hw35

def k0_chk36 (v406 : IVec S16 32) : Prop :=
  (∀ a x, ((![v406] : Fin 1 → IVec S16 32) a x).toNat < S26624.size a)
theorem k0_idx36_inb : ∀ (v406 : IVec S16 32) (k0_hw36 : k0_chk36 v406), ∀ a x, ((![v406] : Fin 1 → IVec S16 32) a x).toNat < S26624.size a := fun v406 k0_hw36 => k0_hw36

def k0_chk37 (v415 : IVec S16 32) : Prop :=
  (∀ a x, ((![v415] : Fin 1 → IVec S16 32) a x).toNat < S26624.size a)
theorem k0_idx37_inb : ∀ (v415 : IVec S16 32) (k0_hw37 : k0_chk37 v415), ∀ a x, ((![v415] : Fin 1 → IVec S16 32) a x).toNat < S26624.size a := fun v415 k0_hw37 => k0_hw37

def k0_chk38 (v424 : IVec S16 32) : Prop :=
  (∀ a x, ((![v424] : Fin 1 → IVec S16 32) a x).toNat < S26624.size a)
theorem k0_idx38_inb : ∀ (v424 : IVec S16 32) (k0_hw38 : k0_chk38 v424), ∀ a x, ((![v424] : Fin 1 → IVec S16 32) a x).toNat < S26624.size a := fun v424 k0_hw38 => k0_hw38

def k0_chk39 (v433 : IVec S16 32) : Prop :=
  (∀ a x, ((![v433] : Fin 1 → IVec S16 32) a x).toNat < S26624.size a)
theorem k0_idx39_inb : ∀ (v433 : IVec S16 32) (k0_hw39 : k0_chk39 v433), ∀ a x, ((![v433] : Fin 1 → IVec S16 32) a x).toNat < S26624.size a := fun v433 k0_hw39 => k0_hw39

def k0_chk40 (v442 : IVec S16 32) : Prop :=
  (∀ a x, ((![v442] : Fin 1 → IVec S16 32) a x).toNat < S26624.size a)
theorem k0_idx40_inb : ∀ (v442 : IVec S16 32) (k0_hw40 : k0_chk40 v442), ∀ a x, ((![v442] : Fin 1 → IVec S16 32) a x).toNat < S26624.size a := fun v442 k0_hw40 => k0_hw40

def k0_chk41 (v451 : IVec S16 32) : Prop :=
  (∀ a x, ((![v451] : Fin 1 → IVec S16 32) a x).toNat < S26624.size a)
theorem k0_idx41_inb : ∀ (v451 : IVec S16 32) (k0_hw41 : k0_chk41 v451), ∀ a x, ((![v451] : Fin 1 → IVec S16 32) a x).toNat < S26624.size a := fun v451 k0_hw41 => k0_hw41

def k0_chk42 (v460 : IVec S16 32) : Prop :=
  (∀ a x, ((![v460] : Fin 1 → IVec S16 32) a x).toNat < S26624.size a)
theorem k0_idx42_inb : ∀ (v460 : IVec S16 32) (k0_hw42 : k0_chk42 v460), ∀ a x, ((![v460] : Fin 1 → IVec S16 32) a x).toNat < S26624.size a := fun v460 k0_hw42 => k0_hw42

def k0_chk43 (v469 : IVec S16 32) : Prop :=
  (∀ a x, ((![v469] : Fin 1 → IVec S16 32) a x).toNat < S26624.size a)
theorem k0_idx43_inb : ∀ (v469 : IVec S16 32) (k0_hw43 : k0_chk43 v469), ∀ a x, ((![v469] : Fin 1 → IVec S16 32) a x).toNat < S26624.size a := fun v469 k0_hw43 => k0_hw43

def k0_chk44 (v478 : IVec S16 32) : Prop :=
  (∀ a x, ((![v478] : Fin 1 → IVec S16 32) a x).toNat < S26624.size a)
theorem k0_idx44_inb : ∀ (v478 : IVec S16 32) (k0_hw44 : k0_chk44 v478), ∀ a x, ((![v478] : Fin 1 → IVec S16 32) a x).toNat < S26624.size a := fun v478 k0_hw44 => k0_hw44

def k0_chk45 (v487 : IVec S16 32) : Prop :=
  (∀ a x, ((![v487] : Fin 1 → IVec S16 32) a x).toNat < S26624.size a)
theorem k0_idx45_inb : ∀ (v487 : IVec S16 32) (k0_hw45 : k0_chk45 v487), ∀ a x, ((![v487] : Fin 1 → IVec S16 32) a x).toNat < S26624.size a := fun v487 k0_hw45 => k0_hw45

def k0_chk46 (v496 : IVec S16 32) : Prop :=
  (∀ a x, ((![v496] : Fin 1 → IVec S16 32) a x).toNat < S26624.size a)
theorem k0_idx46_inb : ∀ (v496 : IVec S16 32) (k0_hw46 : k0_chk46 v496), ∀ a x, ((![v496] : Fin 1 → IVec S16 32) a x).toNat < S26624.size a := fun v496 k0_hw46 => k0_hw46

def k0_chk47 (v505 : IVec S16 32) : Prop :=
  (∀ a x, ((![v505] : Fin 1 → IVec S16 32) a x).toNat < S26624.size a)
theorem k0_idx47_inb : ∀ (v505 : IVec S16 32) (k0_hw47 : k0_chk47 v505), ∀ a x, ((![v505] : Fin 1 → IVec S16 32) a x).toNat < S26624.size a := fun v505 k0_hw47 => k0_hw47

def k0_chk48 (v514 : IVec S16 32) : Prop :=
  (∀ a x, ((![v514] : Fin 1 → IVec S16 32) a x).toNat < S26624.size a)
theorem k0_idx48_inb : ∀ (v514 : IVec S16 32) (k0_hw48 : k0_chk48 v514), ∀ a x, ((![v514] : Fin 1 → IVec S16 32) a x).toNat < S26624.size a := fun v514 k0_hw48 => k0_hw48

def k0_chk49 (v523 : IVec S16 32) : Prop :=
  (∀ a x, ((![v523] : Fin 1 → IVec S16 32) a x).toNat < S26624.size a)
theorem k0_idx49_inb : ∀ (v523 : IVec S16 32) (k0_hw49 : k0_chk49 v523), ∀ a x, ((![v523] : Fin 1 → IVec S16 32) a x).toNat < S26624.size a := fun v523 k0_hw49 => k0_hw49

def k0_chk50 (v532 : IVec S16 32) : Prop :=
  (∀ a x, ((![v532] : Fin 1 → IVec S16 32) a x).toNat < S26624.size a)
theorem k0_idx50_inb : ∀ (v532 : IVec S16 32) (k0_hw50 : k0_chk50 v532), ∀ a x, ((![v532] : Fin 1 → IVec S16 32) a x).toNat < S26624.size a := fun v532 k0_hw50 => k0_hw50
def k0_off4 (k0_t2 : Fin k0_t2_loop.trips) : Fin 2 → Nat :=
  let c0_i32_37 : BitVec 32 := 0#32
  let c1_i32_39 : BitVec 32 := 1#32
  let arg10 : BitVec 32 := Scf.iv c0_i32_37 c1_i32_39 k0_t2
  let v538 : Index := Scalar.indexCast arg10
  let c0 : Index := 0#32
  ![v538.toNat, 0]
def k0_off5 (i : grid0.Coords) (k0_t1 : Fin k0_t1_loop.trips) : Fin 3 → Nat :=
  let c0_i32_7 : BitVec 32 := 0#32
  let c1_i32 : BitVec 32 := 1#32
  let arg9 : BitVec 32 := Scf.iv c0_i32_7 c1_i32 k0_t1
  let c2_i32_9 : BitVec 32 := 2#32
  let v28 : BitVec 32 := Scalar.muli arg9 c2_i32_9
  let c3_i32_34 : BitVec 32 := 3#32
  let v61 : BitVec 32 := Scalar.andi v28 c3_i32_34
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_33 : BitVec 32 := 2#32
  let v60 : BitVec 32 := Scalar.shrsi v28 c2_i32_33
  let c32_i32_41 : BitVec 32 := 32#32
  let v65 : BitVec 32 := Scalar.muli v60 c32_i32_41
  let v66 : BitVec 32 := Scalar.addi v2 v65
  let c0_i32_64_r0 : BitVec 32 := 0#32
  ![v61.toNat, v66.toNat, 0]
def k0_cond1 (k0_t1 : Fin k0_t1_loop.trips) : BitVec 1 :=
  let c0_i32_7 : BitVec 32 := 0#32
  let c1_i32 : BitVec 32 := 1#32
  let arg9 : BitVec 32 := Scf.iv c0_i32_7 c1_i32 k0_t1
  let c1_i32_42 : BitVec 32 := 1#32
  let v67 : BitVec 32 := Scalar.addi arg9 c1_i32_42
  let c32_i32_43 : BitVec 32 := 32#32
  let v68 : BitVec 1 := Scalar.cmpi .slt v67 c32_i32_43
  let v69 : BitVec 32 := Scalar.extui v68
  let c0_i32_44 : BitVec 32 := 0#32
  let v70 : BitVec 1 := Scalar.cmpi .ne v69 c0_i32_44
  v70

def k0_off6 (i : grid0.Coords) (k0_t1 : Fin k0_t1_loop.trips) : Fin 1 → Nat :=
  let c2_i32_69 : BitVec 32 := 2#32
  let c0_i32_7 : BitVec 32 := 0#32
  let c1_i32 : BitVec 32 := 1#32
  let arg9 : BitVec 32 := Scf.iv c0_i32_7 c1_i32 k0_t1
  let c2_i32_9 : BitVec 32 := 2#32
  let v28 : BitVec 32 := Scalar.muli arg9 c2_i32_9
  let c2_i32_64 : BitVec 32 := 2#32
  let v87 : BitVec 32 := Scalar.addi v28 c2_i32_64
  let c3_i32_66 : BitVec 32 := 3#32
  let v89 : BitVec 32 := Scalar.andi v87 c3_i32_66
  let v93 : BitVec 32 := Scalar.muli c2_i32_69 v89
  let c6553600_i32_70 : BitVec 32 := 6553600#32
  let v94 : BitVec 32 := Scalar.muli v93 c6553600_i32_70
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v3 : BitVec 32 := Scalar.muli v1 c200_i32
  let c25_i32_67 : BitVec 32 := 25#32
  let c2_i32_65 : BitVec 32 := 2#32
  let v88 : BitVec 32 := Scalar.shrsi v87 c2_i32_65
  let v90 : BitVec 32 := Scalar.muli c25_i32_67 v88
  let c1_i32_68 : BitVec 32 := 1#32
  let v91 : BitVec 32 := Scalar.shrsi v90 c1_i32_68
  let v92 : BitVec 32 := Scalar.addi v3 v91
  let c1024_i32_71 : BitVec 32 := 1024#32
  let v95 : BitVec 32 := Scalar.muli v92 c1024_i32_71
  let v96 : BitVec 32 := Scalar.addi v94 v95
  ![v96.toNat]
def k0_off7 (i : grid0.Coords) (k0_t1 : Fin k0_t1_loop.trips) : Fin 1 → Nat :=
  let c2_i32_72 : BitVec 32 := 2#32
  let c0_i32_7 : BitVec 32 := 0#32
  let c1_i32 : BitVec 32 := 1#32
  let arg9 : BitVec 32 := Scf.iv c0_i32_7 c1_i32 k0_t1
  let c2_i32_9 : BitVec 32 := 2#32
  let v28 : BitVec 32 := Scalar.muli arg9 c2_i32_9
  let c2_i32_64 : BitVec 32 := 2#32
  let v87 : BitVec 32 := Scalar.addi v28 c2_i32_64
  let c3_i32_66 : BitVec 32 := 3#32
  let v89 : BitVec 32 := Scalar.andi v87 c3_i32_66
  let v97 : BitVec 32 := Scalar.muli c2_i32_72 v89
  let c1_i32_73 : BitVec 32 := 1#32
  let v98 : BitVec 32 := Scalar.addi v97 c1_i32_73
  let c6553600_i32_74 : BitVec 32 := 6553600#32
  let v99 : BitVec 32 := Scalar.muli v98 c6553600_i32_74
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v3 : BitVec 32 := Scalar.muli v1 c200_i32
  let c25_i32_67 : BitVec 32 := 25#32
  let c2_i32_65 : BitVec 32 := 2#32
  let v88 : BitVec 32 := Scalar.shrsi v87 c2_i32_65
  let v90 : BitVec 32 := Scalar.muli c25_i32_67 v88
  let c1_i32_68 : BitVec 32 := 1#32
  let v91 : BitVec 32 := Scalar.shrsi v90 c1_i32_68
  let v92 : BitVec 32 := Scalar.addi v3 v91
  let c1024_i32_75 : BitVec 32 := 1024#32
  let v100 : BitVec 32 := Scalar.muli v92 c1024_i32_75
  let v101 : BitVec 32 := Scalar.addi v99 v100
  ![v101.toNat]
@[reducible] def k0_t3_loop : Scf.Loop 32 :=
  let c0_i32_59 : BitVec 32 := 0#32
  let c32_i32_60 : BitVec 32 := 32#32
  let v84 : BitVec 32 := Scalar.addi c0_i32_59 c32_i32_60
  let c1_i32_61 : BitVec 32 := 1#32
  ⟨c0_i32_59, v84, c1_i32_61⟩

def k0_chk51 (v95 : IVec S16 32) : Prop :=
  (∀ a x, ((![v95] : Fin 1 → IVec S16 32) a x).toNat < S26624.size a)
theorem k0_idx51_inb : ∀ (v95 : IVec S16 32) (k0_hw51 : k0_chk51 v95), ∀ a x, ((![v95] : Fin 1 → IVec S16 32) a x).toNat < S26624.size a := fun v95 k0_hw51 => k0_hw51

def k0_chk52 (v103 : IVec S16 32) : Prop :=
  (∀ a x, ((![v103] : Fin 1 → IVec S16 32) a x).toNat < S26624.size a)
theorem k0_idx52_inb : ∀ (v103 : IVec S16 32) (k0_hw52 : k0_chk52 v103), ∀ a x, ((![v103] : Fin 1 → IVec S16 32) a x).toNat < S26624.size a := fun v103 k0_hw52 => k0_hw52

def k0_chk53 (v111 : IVec S16 32) : Prop :=
  (∀ a x, ((![v111] : Fin 1 → IVec S16 32) a x).toNat < S26624.size a)
theorem k0_idx53_inb : ∀ (v111 : IVec S16 32) (k0_hw53 : k0_chk53 v111), ∀ a x, ((![v111] : Fin 1 → IVec S16 32) a x).toNat < S26624.size a := fun v111 k0_hw53 => k0_hw53

def k0_chk54 (v119 : IVec S16 32) : Prop :=
  (∀ a x, ((![v119] : Fin 1 → IVec S16 32) a x).toNat < S26624.size a)
theorem k0_idx54_inb : ∀ (v119 : IVec S16 32) (k0_hw54 : k0_chk54 v119), ∀ a x, ((![v119] : Fin 1 → IVec S16 32) a x).toNat < S26624.size a := fun v119 k0_hw54 => k0_hw54

def k0_chk55 (v127 : IVec S16 32) : Prop :=
  (∀ a x, ((![v127] : Fin 1 → IVec S16 32) a x).toNat < S26624.size a)
theorem k0_idx55_inb : ∀ (v127 : IVec S16 32) (k0_hw55 : k0_chk55 v127), ∀ a x, ((![v127] : Fin 1 → IVec S16 32) a x).toNat < S26624.size a := fun v127 k0_hw55 => k0_hw55

def k0_chk56 (v136 : IVec S16 32) : Prop :=
  (∀ a x, ((![v136] : Fin 1 → IVec S16 32) a x).toNat < S26624.size a)
theorem k0_idx56_inb : ∀ (v136 : IVec S16 32) (k0_hw56 : k0_chk56 v136), ∀ a x, ((![v136] : Fin 1 → IVec S16 32) a x).toNat < S26624.size a := fun v136 k0_hw56 => k0_hw56

def k0_chk57 (v145 : IVec S16 32) : Prop :=
  (∀ a x, ((![v145] : Fin 1 → IVec S16 32) a x).toNat < S26624.size a)
theorem k0_idx57_inb : ∀ (v145 : IVec S16 32) (k0_hw57 : k0_chk57 v145), ∀ a x, ((![v145] : Fin 1 → IVec S16 32) a x).toNat < S26624.size a := fun v145 k0_hw57 => k0_hw57

def k0_chk58 (v154 : IVec S16 32) : Prop :=
  (∀ a x, ((![v154] : Fin 1 → IVec S16 32) a x).toNat < S26624.size a)
theorem k0_idx58_inb : ∀ (v154 : IVec S16 32) (k0_hw58 : k0_chk58 v154), ∀ a x, ((![v154] : Fin 1 → IVec S16 32) a x).toNat < S26624.size a := fun v154 k0_hw58 => k0_hw58

def k0_chk59 (v163 : IVec S16 32) : Prop :=
  (∀ a x, ((![v163] : Fin 1 → IVec S16 32) a x).toNat < S26624.size a)
theorem k0_idx59_inb : ∀ (v163 : IVec S16 32) (k0_hw59 : k0_chk59 v163), ∀ a x, ((![v163] : Fin 1 → IVec S16 32) a x).toNat < S26624.size a := fun v163 k0_hw59 => k0_hw59

def k0_chk60 (v172 : IVec S16 32) : Prop :=
  (∀ a x, ((![v172] : Fin 1 → IVec S16 32) a x).toNat < S26624.size a)
theorem k0_idx60_inb : ∀ (v172 : IVec S16 32) (k0_hw60 : k0_chk60 v172), ∀ a x, ((![v172] : Fin 1 → IVec S16 32) a x).toNat < S26624.size a := fun v172 k0_hw60 => k0_hw60

def k0_chk61 (v181 : IVec S16 32) : Prop :=
  (∀ a x, ((![v181] : Fin 1 → IVec S16 32) a x).toNat < S26624.size a)
theorem k0_idx61_inb : ∀ (v181 : IVec S16 32) (k0_hw61 : k0_chk61 v181), ∀ a x, ((![v181] : Fin 1 → IVec S16 32) a x).toNat < S26624.size a := fun v181 k0_hw61 => k0_hw61

def k0_chk62 (v190 : IVec S16 32) : Prop :=
  (∀ a x, ((![v190] : Fin 1 → IVec S16 32) a x).toNat < S26624.size a)
theorem k0_idx62_inb : ∀ (v190 : IVec S16 32) (k0_hw62 : k0_chk62 v190), ∀ a x, ((![v190] : Fin 1 → IVec S16 32) a x).toNat < S26624.size a := fun v190 k0_hw62 => k0_hw62

def k0_chk63 (v199 : IVec S16 32) : Prop :=
  (∀ a x, ((![v199] : Fin 1 → IVec S16 32) a x).toNat < S26624.size a)
theorem k0_idx63_inb : ∀ (v199 : IVec S16 32) (k0_hw63 : k0_chk63 v199), ∀ a x, ((![v199] : Fin 1 → IVec S16 32) a x).toNat < S26624.size a := fun v199 k0_hw63 => k0_hw63

def k0_chk64 (v208 : IVec S16 32) : Prop :=
  (∀ a x, ((![v208] : Fin 1 → IVec S16 32) a x).toNat < S26624.size a)
theorem k0_idx64_inb : ∀ (v208 : IVec S16 32) (k0_hw64 : k0_chk64 v208), ∀ a x, ((![v208] : Fin 1 → IVec S16 32) a x).toNat < S26624.size a := fun v208 k0_hw64 => k0_hw64

def k0_chk65 (v217 : IVec S16 32) : Prop :=
  (∀ a x, ((![v217] : Fin 1 → IVec S16 32) a x).toNat < S26624.size a)
theorem k0_idx65_inb : ∀ (v217 : IVec S16 32) (k0_hw65 : k0_chk65 v217), ∀ a x, ((![v217] : Fin 1 → IVec S16 32) a x).toNat < S26624.size a := fun v217 k0_hw65 => k0_hw65

def k0_chk66 (v226 : IVec S16 32) : Prop :=
  (∀ a x, ((![v226] : Fin 1 → IVec S16 32) a x).toNat < S26624.size a)
theorem k0_idx66_inb : ∀ (v226 : IVec S16 32) (k0_hw66 : k0_chk66 v226), ∀ a x, ((![v226] : Fin 1 → IVec S16 32) a x).toNat < S26624.size a := fun v226 k0_hw66 => k0_hw66

def k0_chk67 (v235 : IVec S16 32) : Prop :=
  (∀ a x, ((![v235] : Fin 1 → IVec S16 32) a x).toNat < S26624.size a)
theorem k0_idx67_inb : ∀ (v235 : IVec S16 32) (k0_hw67 : k0_chk67 v235), ∀ a x, ((![v235] : Fin 1 → IVec S16 32) a x).toNat < S26624.size a := fun v235 k0_hw67 => k0_hw67

def k0_chk68 (v244 : IVec S16 32) : Prop :=
  (∀ a x, ((![v244] : Fin 1 → IVec S16 32) a x).toNat < S26624.size a)
theorem k0_idx68_inb : ∀ (v244 : IVec S16 32) (k0_hw68 : k0_chk68 v244), ∀ a x, ((![v244] : Fin 1 → IVec S16 32) a x).toNat < S26624.size a := fun v244 k0_hw68 => k0_hw68

def k0_chk69 (v253 : IVec S16 32) : Prop :=
  (∀ a x, ((![v253] : Fin 1 → IVec S16 32) a x).toNat < S26624.size a)
theorem k0_idx69_inb : ∀ (v253 : IVec S16 32) (k0_hw69 : k0_chk69 v253), ∀ a x, ((![v253] : Fin 1 → IVec S16 32) a x).toNat < S26624.size a := fun v253 k0_hw69 => k0_hw69

def k0_chk70 (v262 : IVec S16 32) : Prop :=
  (∀ a x, ((![v262] : Fin 1 → IVec S16 32) a x).toNat < S26624.size a)
theorem k0_idx70_inb : ∀ (v262 : IVec S16 32) (k0_hw70 : k0_chk70 v262), ∀ a x, ((![v262] : Fin 1 → IVec S16 32) a x).toNat < S26624.size a := fun v262 k0_hw70 => k0_hw70

def k0_chk71 (v271 : IVec S16 32) : Prop :=
  (∀ a x, ((![v271] : Fin 1 → IVec S16 32) a x).toNat < S26624.size a)
theorem k0_idx71_inb : ∀ (v271 : IVec S16 32) (k0_hw71 : k0_chk71 v271), ∀ a x, ((![v271] : Fin 1 → IVec S16 32) a x).toNat < S26624.size a := fun v271 k0_hw71 => k0_hw71

def k0_chk72 (v280 : IVec S16 32) : Prop :=
  (∀ a x, ((![v280] : Fin 1 → IVec S16 32) a x).toNat < S26624.size a)
theorem k0_idx72_inb : ∀ (v280 : IVec S16 32) (k0_hw72 : k0_chk72 v280), ∀ a x, ((![v280] : Fin 1 → IVec S16 32) a x).toNat < S26624.size a := fun v280 k0_hw72 => k0_hw72

def k0_chk73 (v289 : IVec S16 32) : Prop :=
  (∀ a x, ((![v289] : Fin 1 → IVec S16 32) a x).toNat < S26624.size a)
theorem k0_idx73_inb : ∀ (v289 : IVec S16 32) (k0_hw73 : k0_chk73 v289), ∀ a x, ((![v289] : Fin 1 → IVec S16 32) a x).toNat < S26624.size a := fun v289 k0_hw73 => k0_hw73

def k0_chk74 (v298 : IVec S16 32) : Prop :=
  (∀ a x, ((![v298] : Fin 1 → IVec S16 32) a x).toNat < S26624.size a)
theorem k0_idx74_inb : ∀ (v298 : IVec S16 32) (k0_hw74 : k0_chk74 v298), ∀ a x, ((![v298] : Fin 1 → IVec S16 32) a x).toNat < S26624.size a := fun v298 k0_hw74 => k0_hw74

def k0_chk75 (v307 : IVec S16 32) : Prop :=
  (∀ a x, ((![v307] : Fin 1 → IVec S16 32) a x).toNat < S26624.size a)
theorem k0_idx75_inb : ∀ (v307 : IVec S16 32) (k0_hw75 : k0_chk75 v307), ∀ a x, ((![v307] : Fin 1 → IVec S16 32) a x).toNat < S26624.size a := fun v307 k0_hw75 => k0_hw75

def k0_chk76 (v316 : IVec S16 32) : Prop :=
  (∀ a x, ((![v316] : Fin 1 → IVec S16 32) a x).toNat < S26624.size a)
theorem k0_idx76_inb : ∀ (v316 : IVec S16 32) (k0_hw76 : k0_chk76 v316), ∀ a x, ((![v316] : Fin 1 → IVec S16 32) a x).toNat < S26624.size a := fun v316 k0_hw76 => k0_hw76

def k0_chk77 (v325 : IVec S16 32) : Prop :=
  (∀ a x, ((![v325] : Fin 1 → IVec S16 32) a x).toNat < S26624.size a)
theorem k0_idx77_inb : ∀ (v325 : IVec S16 32) (k0_hw77 : k0_chk77 v325), ∀ a x, ((![v325] : Fin 1 → IVec S16 32) a x).toNat < S26624.size a := fun v325 k0_hw77 => k0_hw77

def k0_chk78 (v334 : IVec S16 32) : Prop :=
  (∀ a x, ((![v334] : Fin 1 → IVec S16 32) a x).toNat < S26624.size a)
theorem k0_idx78_inb : ∀ (v334 : IVec S16 32) (k0_hw78 : k0_chk78 v334), ∀ a x, ((![v334] : Fin 1 → IVec S16 32) a x).toNat < S26624.size a := fun v334 k0_hw78 => k0_hw78

def k0_chk79 (v343 : IVec S16 32) : Prop :=
  (∀ a x, ((![v343] : Fin 1 → IVec S16 32) a x).toNat < S26624.size a)
theorem k0_idx79_inb : ∀ (v343 : IVec S16 32) (k0_hw79 : k0_chk79 v343), ∀ a x, ((![v343] : Fin 1 → IVec S16 32) a x).toNat < S26624.size a := fun v343 k0_hw79 => k0_hw79

def k0_chk80 (v352 : IVec S16 32) : Prop :=
  (∀ a x, ((![v352] : Fin 1 → IVec S16 32) a x).toNat < S26624.size a)
theorem k0_idx80_inb : ∀ (v352 : IVec S16 32) (k0_hw80 : k0_chk80 v352), ∀ a x, ((![v352] : Fin 1 → IVec S16 32) a x).toNat < S26624.size a := fun v352 k0_hw80 => k0_hw80

def k0_chk81 (v361 : IVec S16 32) : Prop :=
  (∀ a x, ((![v361] : Fin 1 → IVec S16 32) a x).toNat < S26624.size a)
theorem k0_idx81_inb : ∀ (v361 : IVec S16 32) (k0_hw81 : k0_chk81 v361), ∀ a x, ((![v361] : Fin 1 → IVec S16 32) a x).toNat < S26624.size a := fun v361 k0_hw81 => k0_hw81

def k0_chk82 (v370 : IVec S16 32) : Prop :=
  (∀ a x, ((![v370] : Fin 1 → IVec S16 32) a x).toNat < S26624.size a)
theorem k0_idx82_inb : ∀ (v370 : IVec S16 32) (k0_hw82 : k0_chk82 v370), ∀ a x, ((![v370] : Fin 1 → IVec S16 32) a x).toNat < S26624.size a := fun v370 k0_hw82 => k0_hw82

def k0_chk83 (v379 : IVec S16 32) : Prop :=
  (∀ a x, ((![v379] : Fin 1 → IVec S16 32) a x).toNat < S26624.size a)
theorem k0_idx83_inb : ∀ (v379 : IVec S16 32) (k0_hw83 : k0_chk83 v379), ∀ a x, ((![v379] : Fin 1 → IVec S16 32) a x).toNat < S26624.size a := fun v379 k0_hw83 => k0_hw83

def k0_chk84 (v388 : IVec S16 32) : Prop :=
  (∀ a x, ((![v388] : Fin 1 → IVec S16 32) a x).toNat < S26624.size a)
theorem k0_idx84_inb : ∀ (v388 : IVec S16 32) (k0_hw84 : k0_chk84 v388), ∀ a x, ((![v388] : Fin 1 → IVec S16 32) a x).toNat < S26624.size a := fun v388 k0_hw84 => k0_hw84

def k0_chk85 (v397 : IVec S16 32) : Prop :=
  (∀ a x, ((![v397] : Fin 1 → IVec S16 32) a x).toNat < S26624.size a)
theorem k0_idx85_inb : ∀ (v397 : IVec S16 32) (k0_hw85 : k0_chk85 v397), ∀ a x, ((![v397] : Fin 1 → IVec S16 32) a x).toNat < S26624.size a := fun v397 k0_hw85 => k0_hw85

def k0_chk86 (v406 : IVec S16 32) : Prop :=
  (∀ a x, ((![v406] : Fin 1 → IVec S16 32) a x).toNat < S26624.size a)
theorem k0_idx86_inb : ∀ (v406 : IVec S16 32) (k0_hw86 : k0_chk86 v406), ∀ a x, ((![v406] : Fin 1 → IVec S16 32) a x).toNat < S26624.size a := fun v406 k0_hw86 => k0_hw86

def k0_chk87 (v415 : IVec S16 32) : Prop :=
  (∀ a x, ((![v415] : Fin 1 → IVec S16 32) a x).toNat < S26624.size a)
theorem k0_idx87_inb : ∀ (v415 : IVec S16 32) (k0_hw87 : k0_chk87 v415), ∀ a x, ((![v415] : Fin 1 → IVec S16 32) a x).toNat < S26624.size a := fun v415 k0_hw87 => k0_hw87

def k0_chk88 (v424 : IVec S16 32) : Prop :=
  (∀ a x, ((![v424] : Fin 1 → IVec S16 32) a x).toNat < S26624.size a)
theorem k0_idx88_inb : ∀ (v424 : IVec S16 32) (k0_hw88 : k0_chk88 v424), ∀ a x, ((![v424] : Fin 1 → IVec S16 32) a x).toNat < S26624.size a := fun v424 k0_hw88 => k0_hw88

def k0_chk89 (v433 : IVec S16 32) : Prop :=
  (∀ a x, ((![v433] : Fin 1 → IVec S16 32) a x).toNat < S26624.size a)
theorem k0_idx89_inb : ∀ (v433 : IVec S16 32) (k0_hw89 : k0_chk89 v433), ∀ a x, ((![v433] : Fin 1 → IVec S16 32) a x).toNat < S26624.size a := fun v433 k0_hw89 => k0_hw89

def k0_chk90 (v442 : IVec S16 32) : Prop :=
  (∀ a x, ((![v442] : Fin 1 → IVec S16 32) a x).toNat < S26624.size a)
theorem k0_idx90_inb : ∀ (v442 : IVec S16 32) (k0_hw90 : k0_chk90 v442), ∀ a x, ((![v442] : Fin 1 → IVec S16 32) a x).toNat < S26624.size a := fun v442 k0_hw90 => k0_hw90

def k0_chk91 (v451 : IVec S16 32) : Prop :=
  (∀ a x, ((![v451] : Fin 1 → IVec S16 32) a x).toNat < S26624.size a)
theorem k0_idx91_inb : ∀ (v451 : IVec S16 32) (k0_hw91 : k0_chk91 v451), ∀ a x, ((![v451] : Fin 1 → IVec S16 32) a x).toNat < S26624.size a := fun v451 k0_hw91 => k0_hw91

def k0_chk92 (v460 : IVec S16 32) : Prop :=
  (∀ a x, ((![v460] : Fin 1 → IVec S16 32) a x).toNat < S26624.size a)
theorem k0_idx92_inb : ∀ (v460 : IVec S16 32) (k0_hw92 : k0_chk92 v460), ∀ a x, ((![v460] : Fin 1 → IVec S16 32) a x).toNat < S26624.size a := fun v460 k0_hw92 => k0_hw92

def k0_chk93 (v469 : IVec S16 32) : Prop :=
  (∀ a x, ((![v469] : Fin 1 → IVec S16 32) a x).toNat < S26624.size a)
theorem k0_idx93_inb : ∀ (v469 : IVec S16 32) (k0_hw93 : k0_chk93 v469), ∀ a x, ((![v469] : Fin 1 → IVec S16 32) a x).toNat < S26624.size a := fun v469 k0_hw93 => k0_hw93

def k0_chk94 (v478 : IVec S16 32) : Prop :=
  (∀ a x, ((![v478] : Fin 1 → IVec S16 32) a x).toNat < S26624.size a)
theorem k0_idx94_inb : ∀ (v478 : IVec S16 32) (k0_hw94 : k0_chk94 v478), ∀ a x, ((![v478] : Fin 1 → IVec S16 32) a x).toNat < S26624.size a := fun v478 k0_hw94 => k0_hw94

def k0_chk95 (v487 : IVec S16 32) : Prop :=
  (∀ a x, ((![v487] : Fin 1 → IVec S16 32) a x).toNat < S26624.size a)
theorem k0_idx95_inb : ∀ (v487 : IVec S16 32) (k0_hw95 : k0_chk95 v487), ∀ a x, ((![v487] : Fin 1 → IVec S16 32) a x).toNat < S26624.size a := fun v487 k0_hw95 => k0_hw95

def k0_chk96 (v496 : IVec S16 32) : Prop :=
  (∀ a x, ((![v496] : Fin 1 → IVec S16 32) a x).toNat < S26624.size a)
theorem k0_idx96_inb : ∀ (v496 : IVec S16 32) (k0_hw96 : k0_chk96 v496), ∀ a x, ((![v496] : Fin 1 → IVec S16 32) a x).toNat < S26624.size a := fun v496 k0_hw96 => k0_hw96

def k0_chk97 (v505 : IVec S16 32) : Prop :=
  (∀ a x, ((![v505] : Fin 1 → IVec S16 32) a x).toNat < S26624.size a)
theorem k0_idx97_inb : ∀ (v505 : IVec S16 32) (k0_hw97 : k0_chk97 v505), ∀ a x, ((![v505] : Fin 1 → IVec S16 32) a x).toNat < S26624.size a := fun v505 k0_hw97 => k0_hw97

def k0_chk98 (v514 : IVec S16 32) : Prop :=
  (∀ a x, ((![v514] : Fin 1 → IVec S16 32) a x).toNat < S26624.size a)
theorem k0_idx98_inb : ∀ (v514 : IVec S16 32) (k0_hw98 : k0_chk98 v514), ∀ a x, ((![v514] : Fin 1 → IVec S16 32) a x).toNat < S26624.size a := fun v514 k0_hw98 => k0_hw98

def k0_chk99 (v523 : IVec S16 32) : Prop :=
  (∀ a x, ((![v523] : Fin 1 → IVec S16 32) a x).toNat < S26624.size a)
theorem k0_idx99_inb : ∀ (v523 : IVec S16 32) (k0_hw99 : k0_chk99 v523), ∀ a x, ((![v523] : Fin 1 → IVec S16 32) a x).toNat < S26624.size a := fun v523 k0_hw99 => k0_hw99

def k0_chk100 (v532 : IVec S16 32) : Prop :=
  (∀ a x, ((![v532] : Fin 1 → IVec S16 32) a x).toNat < S26624.size a)
theorem k0_idx100_inb : ∀ (v532 : IVec S16 32) (k0_hw100 : k0_chk100 v532), ∀ a x, ((![v532] : Fin 1 → IVec S16 32) a x).toNat < S26624.size a := fun v532 k0_hw100 => k0_hw100
def k0_off8 (k0_t3 : Fin k0_t3_loop.trips) : Fin 2 → Nat :=
  let c0_i32_59 : BitVec 32 := 0#32
  let c1_i32_61 : BitVec 32 := 1#32
  let arg10 : BitVec 32 := Scf.iv c0_i32_59 c1_i32_61 k0_t3
  let v538 : Index := Scalar.indexCast arg10
  let c0 : Index := 0#32
  ![v538.toNat, 0]
def k0_off9 (i : grid0.Coords) (k0_t1 : Fin k0_t1_loop.trips) : Fin 3 → Nat :=
  let c0_i32_7 : BitVec 32 := 0#32
  let c1_i32 : BitVec 32 := 1#32
  let arg9 : BitVec 32 := Scf.iv c0_i32_7 c1_i32 k0_t1
  let c2_i32_9 : BitVec 32 := 2#32
  let v28 : BitVec 32 := Scalar.muli arg9 c2_i32_9
  let c1_i32_53 : BitVec 32 := 1#32
  let v79 : BitVec 32 := Scalar.addi v28 c1_i32_53
  let c3_i32_55 : BitVec 32 := 3#32
  let v81 : BitVec 32 := Scalar.andi v79 c3_i32_55
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_54 : BitVec 32 := 2#32
  let v80 : BitVec 32 := Scalar.shrsi v79 c2_i32_54
  let c32_i32_63 : BitVec 32 := 32#32
  let v85 : BitVec 32 := Scalar.muli v80 c32_i32_63
  let v86 : BitVec 32 := Scalar.addi v2 v85
  let c0_i32_64_r1 : BitVec 32 := 0#32
  ![v81.toNat, v86.toNat, 0]
abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4x1024x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S819200x64 : Shape := ⟨2, ![819200, 64]⟩
abbrev S16384x64 : Shape := ⟨2, ![16384, 64]⟩
abbrev S16384x50 : Shape := ⟨2, ![16384, 50]⟩
abbrev S16384x50x64 : Shape := ⟨3, ![16384, 50, 64]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S819200x64, .f32⟩
  | .hbm, ⟨1, _⟩ => ⟨S16384x64, .f32⟩
  | .hbm, ⟨2, _⟩ => ⟨S16384x64, .f32⟩
  | .hbm, ⟨3, _⟩ => ⟨S16384x50, .i32⟩
  | .hbm, ⟨4, _⟩ => ⟨S16384x50x64, .f32⟩
  | .hbm, ⟨5, _⟩ => ⟨S_, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S_, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S_, .f32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S_, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16384x64, .f32⟩
  | .hbm, ⟨30, _⟩ => ⟨S_, .f32⟩
  | .hbm, ⟨31, _⟩ => ⟨S_, .f32⟩
  | .hbm, ⟨32, _⟩ => ⟨S16384x64, .f32⟩
  | .hbm, ⟨33, _⟩ => ⟨S16384x64, .f32⟩
  | .hbm, ⟨34, _⟩ => ⟨S16384x64, .f32⟩
  | .hbm, ⟨35, _⟩ => ⟨S16384x64, .f32⟩
  | .hbm, ⟨36, _⟩ => ⟨S_, .f32⟩
  | .hbm, ⟨37, _⟩ => ⟨S_, .f32⟩
  | .hbm, ⟨38, _⟩ => ⟨S16384x64, .f32⟩
  | .hbm, ⟨39, _⟩ => ⟨S16384x64, .f32⟩
  | .hbm, ⟨40, _⟩ => ⟨S16384x64, .f32⟩
  | .hbm, ⟨41, _⟩ => ⟨S_, .f32⟩
  | .hbm, ⟨42, _⟩ => ⟨S16384x64, .f32⟩
  | .hbm, ⟨43, _⟩ => ⟨S16384x64, .f32⟩
  | .hbm, ⟨44, _⟩ => ⟨S16384x64, .f32⟩
  | .hbm, ⟨45, _⟩ => ⟨S16384x64, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S819200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_call1_v0 : Ref sig .tc := ⟨.hbm, 15, rfl⟩
abbrev main_call1_v1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_call2_v0 : Ref sig .tc := ⟨.hbm, 31, rfl⟩
abbrev main_call2_v1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_call3_v0 : Ref sig .tc := ⟨.hbm, 37, rfl⟩
abbrev main_call3_v1 : Ref sig .tc := ⟨.hbm, 38, rfl⟩
abbrev main_v19 : Ref sig .tc := ⟨.hbm, 39, rfl⟩
abbrev main_v20 : Ref sig .tc := ⟨.hbm, 40, rfl⟩
abbrev main_cst_7 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_8 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩

abbrev nD : Nat := 1
abbrev τ : Topo := Topo.v7x

variable {F : FTy → Type} [FloatOps F]
-- ==== Proof.Setup.lean ====
/-
  The program as the launch theorem sees it, and the resource algebra its proof runs over: the handshakes of the
  SparseCore call, the rounds of the TensorCore call's pipeline, and the counters of the tiles' transfers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.SegMax

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)

variable {F : FTy → Type}

/-! ## The program -/

/-- The labels of the program's functions, the pipeline's regions beside them. -/
abbrev ΛP : Labels := Pipeline.Sig Λ₀ (Fin 1) fun p => (pcfgs (F := F) p).Adm
/-- The program's SparseCore launch. -/
abbrev K : SparseCore.Cfg τ sig (ΛP (F := F)) 1 := sc (F := F)
/-- The program's functions with the pipeline's regions. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's handshake semaphores are distinct, unscoped, and shared with no task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipeline's rounds. -/
abbrev UP : Type := URounds (GSem nD τ sig) Unit
/-- All three: handshakes, pipeline, transfer counters. -/
abbrev UU : Type := UH × (UP × Counters)

local notation "𝕄" => MT nD τ sig (HIx 1) (Elt F) ℕ UU ℕ

/-- Where the handshakes' rounds live. -/
abbrev EH : Emb UH (MT nD τ sig (HIx 1) (Elt F) ℕ UU ℕ) := embL
/-- Where the pipeline's rounds live. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-- Where the transfers' counters live. -/
abbrev EC : UEmb Counters (MT nD τ sig (HIx 1) (Elt F) ℕ UU ℕ) := countersEmb

/-! ## Threads -/

/-- The SparseCore and the tile a grid point names. -/
abbrev cV (L : grid0.Coords) : Fin τ.nSC := (L 0).castLE hcore0
abbrev jV (L : grid0.Coords) : Fin τ.nSub := (L 1).castLE hsub0
/-- The tile's thread on device `d`. -/
abbrev tile (d : Dev nD) (L : grid0.Coords) : Thread nD τ := V d (cV L) (jV L)
/-- The number of the tile among the 32: twice its subcore plus its core. -/
def wid (L : grid0.Coords) : ℕ := 2 * (L 1).val + (L 0).val

end Cert.Proof.SegMax

end
-- ==== Proof.Gather.lean ====
/-
  The gather of one position of sixteen segments: the index vector a tile forms for position `n` of its staging buffer
  names in-range words, and the indexed load reads them.
-/
module

public import proofs.«01_k».proof.Proof.Setup

@[expose] public section

noncomputable section

namespace Cert.Proof.SegMax

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay)

variable {F : FTy → Type} [FloatOps F]

local notation "𝕄" => MT nD τ sig (HIx 1) (Elt F) ℕ UU ℕ

/-! ## The index vector -/

/-- The word of the staging buffer that lane `j` reads for position `n`: the lane's eight-column half, its column in the
    half, the 1024-word tile of the position and its lane in the tile. -/
def word (j n : ℕ) : ℕ := (j / 8) * 13312 + (j % 8) * 128 + (n / 128) * 1024 + n % 128

/-- The scalar part of an index vector, as the program computes it from the position's word. -/
def wordOf (w : BitVec 32) : BitVec 32 := Scalar.ori (Scalar.shli (Scalar.shrsi w 7#32) 10#32) (Scalar.andi w 127#32)

/-- The index vector of the position `w`. -/
def gix (w : BitVec 32) : IVec S16 32 := addi k0_pay1 (broadcast S16 (wordOf w))

theorem word_lt {j n : ℕ} (hj : j < 16) (hn : n < 1664) : word j n < 26624 := by
  unfold word; omega

theorem wordOf_toNat : ∀ n : Fin 1664, (wordOf (BitVec.ofNat 32 n.val)).toNat = (n.val / 128) * 1024 + n.val % 128 := by
  decide +kernel

theorem pay1_toNat : ∀ j : Fin 16, ((k0_pay1 : IVec S16 32) (Shape.ofLane (d := ![16]) j)).toNat = (j.val / 8) * 13312 + (j.val % 8) * 128 := by
  decide +kernel

theorem gix_toNat {n : ℕ} (hn : n < 1664) (x : S16.Idx) : (gix (BitVec.ofNat 32 n) x).toNat = word (x 0).val n := by
  have h1 := wordOf_toNat ⟨n, hn⟩
  have hx : x = Shape.ofLane (d := ![16]) (x 0) := funext fun a => by obtain rfl : a = 0 := Subsingleton.elim _ _; rfl
  have h2 : ((k0_pay1 : IVec S16 32) x).toNat = ((x 0).val / 8) * 13312 + ((x 0).val % 8) * 128 := by
    rw [hx]; exact pay1_toNat (x 0)
  have hlt := word_lt (j := (x 0).val) (x 0).isLt hn
  show ((k0_pay1 : IVec S16 32) x + wordOf (BitVec.ofNat 32 n)).toNat = _
  rw [BitVec.toNat_add, h1, h2]
  have he : (x 0).val / 8 * 13312 + (x 0).val % 8 * 128 + (n / 128 * 1024 + n % 128) = word (x 0).val n := by unfold word; omega
  exact (congrArg (· % 2 ^ 32) he).trans (Nat.mod_eq_of_lt (lt_trans hlt (by norm_num)))

/-- A word of the staging buffer as an index of it. -/
def bix (n : ℕ) : S26624.Idx := Shape.ofLane (d := ![26624]) ⟨n % 26624, Nat.mod_lt _ (by decide)⟩

/-- The sixteen words read for position `n` of a staging buffer holding `g`. -/
def gatV (g : S26624.Idx → F .f32) (n : ℕ) : Vec F S16 .f32 := fun x => g (bix (word (x 0).val n))

theorem loadIdx_gix (g : S26624.Idx → F .f32) {n : ℕ} (hn : n < 1664) {v : IVec S16 32} (hv : v = gix (BitVec.ofNat 32 n))
    (h : ∀ a x, ((![v] : Fin 1 → IVec S16 32) a x).toNat < S26624.size a) :
    (loadIdx (s := S26624) (e := .f32) (F := F) g ![v] h : Vec F S16 .f32) = gatV g n := by
  subst hv
  funext x
  refine congrArg g (funext fun a => Fin.ext ?_)
  obtain rfl : a = 0 := Subsingleton.elim _ _
  show (gix (BitVec.ofNat 32 n) x).toNat = word (x 0).val n % 26624
  rw [gix_toNat hn, Nat.mod_eq_of_lt (word_lt (x 0).isLt hn)]

/-- The check of an index vector: every lane names a word of the buffer. -/
theorem gix_inb {n : ℕ} (hn : n < 1664) {v : IVec S16 32} (hv : v = gix (BitVec.ofNat 32 n)) :
    ∀ a x, ((![v] : Fin 1 → IVec S16 32) a x).toNat < S26624.size a := by
  subst hv
  intro a x
  obtain rfl : a = 0 := Subsingleton.elim _ _
  show (gix (BitVec.ofNat 32 n) x).toNat < 26624
  rw [gix_toNat hn]
  exact word_lt (x 0).isLt hn

/-! ## The gather as a step -/

section Step

variable {d : Dev nD} {L : grid0.Coords}
variable {b : Memref sig .scVector .vmem S26624 .f32} {f : Buf (Elt F) (b.view.loc (tile d L))}

/-- An indexed load at the words of position `N + p`: the buffer is kept, and the program continues at the sixteen words. -/
theorem wp_gather' {α : Type} {Q : α → sProp 𝕄} {N : ℕ} (p : ℕ) (hn : N + p < 1664) {w : BitVec 32} (hw : w = BitVec.ofNat 32 N) {v : IVec S16 32}
    (hv : v = gix (w + BitVec.ofNat 32 p))
    {inb : ∀ a x, ((![v] : Fin 1 → IVec S16 32) a x).toNat < S26624.size a} {hl : b.view.Loads}
    {k : Vec F S16 .f32 → Prog (TpuEff nD τ sig (Elt F) Λ₀ (tile d L).2) α} :
    (b.view.loc (tile d L) ↦[b.view.set]{fullShare} f)
      ⊢ iprop(((b.view.loc (tile d L) ↦[b.view.set]{fullShare} f)
          -∗ wp frame (wpE (defs₀ (F := F)) 𝒱₀ (tile d L) none) Set.univ (k (gatV (b.view.read (Elt F) f) (N + p))) Q)
        -∗ wp frame (wpE (defs₀ (F := F)) 𝒱₀ (tile d L) none) Set.univ (SparseCore.vectorLoadIdx b ![v] inb hl >>= k) Q) := by
  have hv' : v = gix (BitVec.ofNat 32 (N + p)) := by rw [hv, hw, BitVec.ofNat_add]
  have h := wp_load (defs := defs₀ (F := F)) 𝒱₀ (tile d L) none (Γ := .empty) Set.univ (Q := Q) (m := b) (r := LoadRect.whole S26624) (hl := View.loadsAt_whole hl)
    (k := fun g => k (loadIdx g ![v] inb)) (S := b.view.set) (q := fullShare) (f := f) (View.setOn_subset_set _ _)
  have hr : (b.view.readAt (Elt F) (LoadRect.whole S26624) f) = b.view.read (Elt F) f := by
    funext x; rw [View.readAt_apply, View.read_apply]; exact congrArg _ (congrArg f (congrArg b.view.emb (funext fun a => Fin.ext ((Nat.zero_add _).trans (Nat.one_mul _)))))
  rw [hr, loadIdx_gix _ hn hv'] at h
  exact h

/-- A checked indexed load at the words of position `N + p`. -/
theorem wp_gather {α : Type} {Q : α → sProp 𝕄} {N : ℕ} (p : ℕ) (hn : N + p < 1664) {w : BitVec 32} (hw : w = BitVec.ofNat 32 N) {v : IVec S16 32}
    (hv : v = gix (w + BitVec.ofNat 32 p)) {P : Prop} {dP : Decidable P}
    (hP : (∀ a x, ((![v] : Fin 1 → IVec S16 32) a x).toNat < S26624.size a) → P)
    {inb : P → ∀ a x, ((![v] : Fin 1 → IVec S16 32) a x).toNat < S26624.size a} {hl : b.view.Loads}
    {k : Vec F S16 .f32 → Prog (TpuEff nD τ sig (Elt F) Λ₀ (tile d L).2) α} :
    (b.view.loc (tile d L) ↦[b.view.set]{fullShare} f)
      ⊢ iprop(((b.view.loc (tile d L) ↦[b.view.set]{fullShare} f)
          -∗ wp frame (wpE (defs₀ (F := F)) 𝒱₀ (tile d L) none) Set.univ (k (gatV (b.view.read (Elt F) f) (N + p))) Q)
        -∗ wp frame (wpE (defs₀ (F := F)) 𝒱₀ (tile d L) none) Set.univ
          (Prog.lift (TpuEff.assume P dP) >>= fun a => SparseCore.vectorLoadIdx b ![v] (inb a.down) hl >>= k) Q) := by
  have hp : P := hP (gix_inb hn (by rw [hv, hw, BitVec.ofNat_add]))
  show _ ⊢ iprop(_ -∗ wp _ _ _ (.op (.assume P dP) fun a => SparseCore.vectorLoadIdx b ![v] (inb a.down) hl >>= k) Q)
  rw [wp_assume_of _ _ _ _ hp]
  exact wp_gather' p hn hw hv

/-- The check alone, of the index vector of position `N + p`. -/
theorem wp_check {α : Type} {Q : α → sProp 𝕄} {N : ℕ} (p : ℕ) (hn : N + p < 1664) {w : BitVec 32} (hw : w = BitVec.ofNat 32 N) {v : IVec S16 32}
    (hv : v = gix (w + BitVec.ofNat 32 p)) {P : Prop} {dP : Decidable P}
    (hP : (∀ a x, ((![v] : Fin 1 → IVec S16 32) a x).toNat < S26624.size a) → P)
    {k : PLift P → Prog (TpuEff nD τ sig (Elt F) Λ₀ (tile d L).2) α} :
    wp frame (wpE (defs₀ (F := F)) 𝒱₀ (tile d L) none) Set.univ (k ⟨hP (gix_inb hn (by rw [hv, hw, BitVec.ofNat_add]))⟩) Q
      ⊢ (wp frame (wpE (defs₀ (F := F)) 𝒱₀ (tile d L) none) Set.univ (Prog.lift (TpuEff.assume P dP) >>= k) Q : sProp 𝕄) := by
  have hp : P := hP (gix_inb hn (by rw [hv, hw, BitVec.ofNat_add]))
  show _ ⊢ wp _ _ _ (.op (.assume P dP) k) Q
  rw [wp_assume_of _ _ _ _ hp]

/-- A row of the output buffer read (for nothing) and stored: the buffer holds it rewritten there. -/
theorem wp_putRow {α : Type} {Q : α → sProp 𝕄} {o : Memref sig .scVector .vmem S32x16 .f32} {r : Rect S32x16}
    {f6 : Buf (Elt F) (o.view.loc (tile d L))} {w : Vec F r.shape .f32} {hl : o.view.LoadsAt r.toLoadRect}
    {hx : (o.access r).Stores Finset.univ} {hm : Finset.univ = Finset.univ ∨ ∀ a, r.stride a = 1}
    {k : PUnit → Prog (TpuEff nD τ sig (Elt F) Λ₀ (tile d L).2) α} :
    (o.view.loc (tile d L) ↦[o.view.set]{fullShare} f6)
      ⊢ iprop(((o.view.loc (tile d L) ↦[o.view.set]{fullShare} (o.access r).write (Elt F) f6 w Finset.univ)
          -∗ wp frame (wpE (defs₀ (F := F)) 𝒱₀ (tile d L) none) Set.univ (k ⟨⟩) Q)
        -∗ wp frame (wpE (defs₀ (F := F)) 𝒱₀ (tile d L) none) Set.univ
          (Prog.lift (.load o r.toLoadRect hl) >>= fun _ => Prog.lift (.store o r w Finset.univ hx hm) >>= k) Q) := by
  show _ ⊢ iprop(_ -∗ wp _ _ _ (.op (.load o r.toLoadRect hl) fun _ => .op (.store o r w Finset.univ hx hm) k) Q)
  have h1 := wp_load_rect (defs := defs₀ (F := F)) 𝒱₀ (tile d L) none (Γ := .empty) Set.univ (Q := Q) (m := o) (r := r) (hl := hl)
    (k := fun _ => .op (.store o r w Finset.univ hx hm) k) (S := o.view.set) (q := fullShare) (f := f6) (View.set_slice_subset _ _)
  have h2 := wp_store (defs := defs₀ (F := F)) 𝒱₀ (tile d L) none (Γ := .empty) Set.univ (Q := Q) (m := o) (r := r) (w := w) (hx := hx) (hm := hm)
    (k := k) (S := o.view.set) (f := f6) (View.set_slice_subset _ _)
  iintro H HK
  iapply h1 $$ H
  iintro H
  iapply h2 $$ H
  iexact HK

end Step

end Cert.Proof.SegMax

end
-- ==== Proof.Rows.lean ====
/-
  One segment's maximum: fifty gathers in four accumulators, joined, and stored as a row of the tile's output buffer.
-/
module

public import proofs.«01_k».proof.Proof.Gather

@[expose] public section

noncomputable section

namespace Cert.Proof.SegMax

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay)

variable {F : FTy → Type} [FloatOps F]

local notation "𝕄" => MT nD τ sig (HIx 1) (Elt F) ℕ UU ℕ

/-- The running maximum of the vectors `i, i + 4, …, i + 4 k`. -/
def accV (g : ℕ → FVec F S16 .f32) (i : ℕ) : ℕ → FVec F S16 .f32
  | 0 => g i
  | k + 1 => maximumf (accV g i k) (g (i + 4 * (k + 1)))

/-- The maximum of fifty vectors, in the order the program takes it: four accumulators, joined in pairs. -/
def treeV (g : ℕ → FVec F S16 .f32) : FVec F S16 .f32 :=
  maximumf (maximumf (accV g 0 12) (accV g 1 12)) (maximumf (accV g 2 11) (accV g 3 11))

/-- The sixteen maxima of the segment whose first position is `N`, of a staging buffer holding `g`. -/
def rowV (g : S26624.Idx → F .f32) (N : ℕ) : FVec F S16 .f32 := treeV fun p => gatV g (N + p)

/-- The first position of the segment a trip takes, as the program computes it. -/
theorem segWord {v : BitVec 32} {M : ℕ} (hv : v = BitVec.ofNat 32 M) (t : ℕ) :
    Scalar.addi v (Scalar.muli 50#32 (Scf.iv 0#32 1#32 t)) = BitVec.ofNat 32 (M + 50 * t) := by
  subst hv
  show BitVec.ofNat 32 M + 50#32 * (0#32 + BitVec.ofNat 32 t * 1#32) = _
  rw [BitVec.ofNat_add, BitVec.ofNat_mul, BitVec.mul_one, BitVec.zero_add]

section Step

variable {d : Dev nD} {L : grid0.Coords}
variable {arg2 : Memref sig .scVector .hbm S52428800 .f32} {harg2 : arg2.IsWhole} {arg3 : Memref sig .scVector .hbm S4x16384x16 .f32} {harg3 : arg3.IsWhole}
  {arg4 : Memref sig .scVector .vmem S26624 .f32} {harg4 : arg4.IsWhole} {arg5 : Memref sig .scVector .vmem S26624 .f32} {harg5 : arg5.IsWhole}
  {arg6 : Memref sig .scVector .vmem S32x16 .f32} {harg6 : arg6.IsWhole} {arg7 arg8 v87_r0 v87_r1 : DmaSems sig S_}

set_option maxHeartbeats 2000000 in
/-- A trip of the first slot's loop over the segments: the buffer is kept and row `t` of the output buffer holds the
    segment's sixteen maxima. -/
theorem t2_body_wp (v2 v3 : BitVec 32) (t1 : Fin k0_t1_loop.trips) (a9 v28 : BitVec 32) {v63 : BitVec 32} {M : ℕ} (t : Fin k0_t2_loop.trips)
    (hM : M + 50 * t.val + 50 ≤ 1664) (hv : v63 = BitVec.ofNat 32 M)
    (f : Buf (Elt F) (arg4.view.loc (tile d L))) (f6 : Buf (Elt F) (arg6.view.loc (tile d L))) :
    iprop((arg4.view.loc (tile d L) ↦[arg4.view.set]{fullShare} f) ∗ (arg6.view.loc (tile d L) ↦[arg6.view.set]{fullShare} f6) : sProp 𝕄)
      ⊢ wp frame (wpE (defs₀ (F := F)) 𝒱₀ (tile d L) none) Set.univ
          (k0_t2_body L arg2 harg2 arg3 harg3 arg4 harg4 arg5 harg5 arg6 harg6 arg7 arg8 v87_r0 v87_r1 v2 v3 k0_pay1 t1 a9 v28 v63 t ⟨⟩)
          fun _ => iprop((arg4.view.loc (tile d L) ↦[arg4.view.set]{fullShare} f)
            ∗ (arg6.view.loc (tile d L) ↦[arg6.view.set]{fullShare}
              (arg6.access (Rect.unit (s := S32x16) (k0_off4 t) S1x16.size (k0_off4_inb t))).write (Elt F) f6
                (shapeCast S1x16 (rowV (arg4.view.read (Elt F) f) (M + 50 * t.val)) shapeCasts_S16_S1x16) Finset.univ)) := by
  have hw := segWord hv t.val
  generalize hN : M + 50 * t.val = N at *
  unfold k0_t2_body
  iintro ⟨Hb, H6⟩
  rw [wp_bind, k0_part1_eq_skeleton]; unfold k0_part1_skel
  iapply (wp_gather (F := F) 0 (by omega) hw rfl (fun h => h)) $$ Hb; iintro Hb
  iapply (wp_gather (F := F) 1 (by omega) hw rfl (fun h => h)) $$ Hb; iintro Hb
  iapply (wp_gather (F := F) 2 (by omega) hw rfl (fun h => h)) $$ Hb; iintro Hb
  iapply (wp_gather (F := F) 3 (by omega) hw rfl (fun h => h)) $$ Hb; iintro Hb
  rw [wp_pure]; imodintro; dsimp only
  rw [wp_bind, k0_part2_eq_skeleton]; unfold k0_part2_skel
  iapply (wp_gather (F := F) 4 (by omega) hw rfl (fun h => h)) $$ Hb; iintro Hb
  iapply (wp_gather (F := F) 5 (by omega) hw rfl (fun h => h)) $$ Hb; iintro Hb
  iapply (wp_gather (F := F) 6 (by omega) hw rfl (fun h => h)) $$ Hb; iintro Hb
  iapply (wp_gather (F := F) 7 (by omega) hw rfl (fun h => h)) $$ Hb; iintro Hb
  rw [wp_pure]; imodintro; dsimp only
  rw [wp_bind, k0_part3_eq_skeleton]; unfold k0_part3_skel
  iapply (wp_gather (F := F) 8 (by omega) hw rfl (fun h => h)) $$ Hb; iintro Hb
  iapply (wp_gather (F := F) 9 (by omega) hw rfl (fun h => h)) $$ Hb; iintro Hb
  iapply (wp_gather (F := F) 10 (by omega) hw rfl (fun h => h)) $$ Hb; iintro Hb
  iapply (wp_gather (F := F) 11 (by omega) hw rfl (fun h => h)) $$ Hb; iintro Hb
  iapply (wp_check (F := F) 12 (by omega) hw rfl (fun h => h))
  rw [wp_pure]; imodintro; dsimp only
  rw [wp_bind, k0_part4_eq_skeleton]; unfold k0_part4_skel
  iapply (wp_gather' (F := F) 12 (by omega) hw rfl) $$ Hb; iintro Hb
  iapply (wp_gather (F := F) 13 (by omega) hw rfl (fun h => h)) $$ Hb; iintro Hb
  iapply (wp_gather (F := F) 14 (by omega) hw rfl (fun h => h)) $$ Hb; iintro Hb
  iapply (wp_gather (F := F) 15 (by omega) hw rfl (fun h => h)) $$ Hb; iintro Hb
  iapply (wp_gather (F := F) 16 (by omega) hw rfl (fun h => h)) $$ Hb; iintro Hb
  rw [wp_pure]; imodintro; dsimp only
  rw [wp_bind, k0_part5_eq_skeleton]; unfold k0_part5_skel
  iapply (wp_gather (F := F) 17 (by omega) hw rfl (fun h => h)) $$ Hb; iintro Hb
  iapply (wp_gather (F := F) 18 (by omega) hw rfl (fun h => h)) $$ Hb; iintro Hb
  iapply (wp_gather (F := F) 19 (by omega) hw rfl (fun h => h)) $$ Hb; iintro Hb
  iapply (wp_gather (F := F) 20 (by omega) hw rfl (fun h => h)) $$ Hb; iintro Hb
  rw [wp_pure]; imodintro; dsimp only
  rw [wp_bind, k0_part6_eq_skeleton]; unfold k0_part6_skel
  iapply (wp_gather (F := F) 21 (by omega) hw rfl (fun h => h)) $$ Hb; iintro Hb
  iapply (wp_gather (F := F) 22 (by omega) hw rfl (fun h => h)) $$ Hb; iintro Hb
  iapply (wp_gather (F := F) 23 (by omega) hw rfl (fun h => h)) $$ Hb; iintro Hb
  iapply (wp_gather (F := F) 24 (by omega) hw rfl (fun h => h)) $$ Hb; iintro Hb
  rw [wp_pure]; imodintro; dsimp only
  rw [wp_bind, k0_part7_eq_skeleton]; unfold k0_part7_skel
  iapply (wp_gather (F := F) 25 (by omega) hw rfl (fun h => h)) $$ Hb; iintro Hb
  iapply (wp_gather (F := F) 26 (by omega) hw rfl (fun h => h)) $$ Hb; iintro Hb
  iapply (wp_gather (F := F) 27 (by omega) hw rfl (fun h => h)) $$ Hb; iintro Hb
  iapply (wp_gather (F := F) 28 (by omega) hw rfl (fun h => h)) $$ Hb; iintro Hb
  iapply (wp_gather (F := F) 29 (by omega) hw rfl (fun h => h)) $$ Hb; iintro Hb
  rw [wp_pure]; imodintro; dsimp only
  rw [wp_bind, k0_part8_eq_skeleton]; unfold k0_part8_skel
  iapply (wp_gather (F := F) 30 (by omega) hw rfl (fun h => h)) $$ Hb; iintro Hb
  iapply (wp_gather (F := F) 31 (by omega) hw rfl (fun h => h)) $$ Hb; iintro Hb
  iapply (wp_gather (F := F) 32 (by omega) hw rfl (fun h => h)) $$ Hb; iintro Hb
  iapply (wp_gather (F := F) 33 (by omega) hw rfl (fun h => h)) $$ Hb; iintro Hb
  rw [wp_pure]; imodintro; dsimp only
  rw [wp_bind, k0_part9_eq_skeleton]; unfold k0_part9_skel
  iapply (wp_gather (F := F) 34 (by omega) hw rfl (fun h => h)) $$ Hb; iintro Hb
  iapply (wp_gather (F := F) 35 (by omega) hw rfl (fun h => h)) $$ Hb; iintro Hb
  iapply (wp_gather (F := F) 36 (by omega) hw rfl (fun h => h)) $$ Hb; iintro Hb
  iapply (wp_gather (F := F) 37 (by omega) hw rfl (fun h => h)) $$ Hb; iintro Hb
  rw [wp_pure]; imodintro; dsimp only
  rw [wp_bind, k0_part10_eq_skeleton]; unfold k0_part10_skel
  iapply (wp_gather (F := F) 38 (by omega) hw rfl (fun h => h)) $$ Hb; iintro Hb
  iapply (wp_gather (F := F) 39 (by omega) hw rfl (fun h => h)) $$ Hb; iintro Hb
  iapply (wp_gather (F := F) 40 (by omega) hw rfl (fun h => h)) $$ Hb; iintro Hb
  iapply (wp_gather (F := F) 41 (by omega) hw rfl (fun h => h)) $$ Hb; iintro Hb
  iapply (wp_check (F := F) 42 (by omega) hw rfl (fun h => h))
  rw [wp_pure]; imodintro; dsimp only
  rw [wp_bind, k0_part11_eq_skeleton]; unfold k0_part11_skel
  iapply (wp_gather' (F := F) 42 (by omega) hw rfl) $$ Hb; iintro Hb
  iapply (wp_gather (F := F) 43 (by omega) hw rfl (fun h => h)) $$ Hb; iintro Hb
  iapply (wp_gather (F := F) 44 (by omega) hw rfl (fun h => h)) $$ Hb; iintro Hb
  iapply (wp_gather (F := F) 45 (by omega) hw rfl (fun h => h)) $$ Hb; iintro Hb
  iapply (wp_gather (F := F) 46 (by omega) hw rfl (fun h => h)) $$ Hb; iintro Hb
  rw [wp_pure]; imodintro; dsimp only
  iapply (wp_gather (F := F) 47 (by omega) hw rfl (fun h => h)) $$ Hb; iintro Hb
  iapply (wp_gather (F := F) 48 (by omega) hw rfl (fun h => h)) $$ Hb; iintro Hb
  iapply (wp_gather (F := F) 49 (by omega) hw rfl (fun h => h)) $$ Hb; iintro Hb
  iapply (wp_putRow (F := F)) $$ H6; iintro H6
  rw [wp_pure]; imodintro
  isplitl [Hb]; · iexact Hb
  iexact H6

set_option maxHeartbeats 2000000 in
/-- A trip of the second slot's loop over the segments: the buffer is kept and row `t` of the output buffer holds the
    segment's sixteen maxima. -/
theorem t3_body_wp {v83 : BitVec 32} {M : ℕ} (t : Fin k0_t3_loop.trips)
    (hM : M + 50 * t.val + 50 ≤ 1664) (hv : v83 = BitVec.ofNat 32 M)
    (f : Buf (Elt F) (arg5.view.loc (tile d L))) (f6 : Buf (Elt F) (arg6.view.loc (tile d L))) :
    iprop((arg5.view.loc (tile d L) ↦[arg5.view.set]{fullShare} f) ∗ (arg6.view.loc (tile d L) ↦[arg6.view.set]{fullShare} f6) : sProp 𝕄)
      ⊢ wp frame (wpE (defs₀ (F := F)) 𝒱₀ (tile d L) none) Set.univ
          (k0_t3_body L arg2 harg2 arg3 harg3 arg4 harg4 arg5 harg5 arg6 harg6 arg7 arg8 v87_r0 v87_r1 v83 t ⟨⟩)
          fun _ => iprop((arg5.view.loc (tile d L) ↦[arg5.view.set]{fullShare} f)
            ∗ (arg6.view.loc (tile d L) ↦[arg6.view.set]{fullShare}
              (arg6.access (Rect.unit (s := S32x16) (k0_off8 t) S1x16.size (k0_off8_inb t))).write (Elt F) f6
                (shapeCast S1x16 (rowV (arg5.view.read (Elt F) f) (M + 50 * t.val)) shapeCasts_S16_S1x16) Finset.univ)) := by
  have hw := segWord hv t.val
  generalize hN : M + 50 * t.val = N at *
  unfold k0_t3_body
  iintro ⟨Hb, H6⟩
  rw [wp_bind, k0_part12_eq_skeleton]; unfold k0_part12_skel
  iapply (wp_gather (F := F) 0 (by omega) hw rfl (fun h => h)) $$ Hb; iintro Hb
  iapply (wp_gather (F := F) 1 (by omega) hw rfl (fun h => h)) $$ Hb; iintro Hb
  iapply (wp_gather (F := F) 2 (by omega) hw rfl (fun h => h)) $$ Hb; iintro Hb
  iapply (wp_gather (F := F) 3 (by omega) hw rfl (fun h => h)) $$ Hb; iintro Hb
  rw [wp_pure]; imodintro; dsimp only
  rw [wp_bind, k0_part13_eq_skeleton]; unfold k0_part13_skel
  iapply (wp_gather (F := F) 4 (by omega) hw rfl (fun h => h)) $$ Hb; iintro Hb
  iapply (wp_gather (F := F) 5 (by omega) hw rfl (fun h => h)) $$ Hb; iintro Hb
  iapply (wp_gather (F := F) 6 (by omega) hw rfl (fun h => h)) $$ Hb; iintro Hb
  iapply (wp_gather (F := F) 7 (by omega) hw rfl (fun h => h)) $$ Hb; iintro Hb
  rw [wp_pure]; imodintro; dsimp only
  rw [wp_bind, k0_part14_eq_skeleton]; unfold k0_part14_skel
  iapply (wp_gather (F := F) 8 (by omega) hw rfl (fun h => h)) $$ Hb; iintro Hb
  iapply (wp_gather (F := F) 9 (by omega) hw rfl (fun h => h)) $$ Hb; iintro Hb
  iapply (wp_gather (F := F) 10 (by omega) hw rfl (fun h => h)) $$ Hb; iintro Hb
  iapply (wp_gather (F := F) 11 (by omega) hw rfl (fun h => h)) $$ Hb; iintro Hb
  iapply (wp_check (F := F) 12 (by omega) hw rfl (fun h => h))
  rw [wp_pure]; imodintro; dsimp only
  rw [wp_bind, k0_part15_eq_skeleton]; unfold k0_part15_skel
  iapply (wp_gather' (F := F) 12 (by omega) hw rfl) $$ Hb; iintro Hb
  iapply (wp_gather (F := F) 13 (by omega) hw rfl (fun h => h)) $$ Hb; iintro Hb
  iapply (wp_gather (F := F) 14 (by omega) hw rfl (fun h => h)) $$ Hb; iintro Hb
  iapply (wp_gather (F := F) 15 (by omega) hw rfl (fun h => h)) $$ Hb; iintro Hb
  iapply (wp_gather (F := F) 16 (by omega) hw rfl (fun h => h)) $$ Hb; iintro Hb
  rw [wp_pure]; imodintro; dsimp only
  rw [wp_bind, k0_part16_eq_skeleton]; unfold k0_part16_skel
  iapply (wp_gather (F := F) 17 (by omega) hw rfl (fun h => h)) $$ Hb; iintro Hb
  iapply (wp_gather (F := F) 18 (by omega) hw rfl (fun h => h)) $$ Hb; iintro Hb
  iapply (wp_gather (F := F) 19 (by omega) hw rfl (fun h => h)) $$ Hb; iintro Hb
  iapply (wp_gather (F := F) 20 (by omega) hw rfl (fun h => h)) $$ Hb; iintro Hb
  rw [wp_pure]; imodintro; dsimp only
  rw [wp_bind, k0_part17_eq_skeleton]; unfold k0_part17_skel
  iapply (wp_gather (F := F) 21 (by omega) hw rfl (fun h => h)) $$ Hb; iintro Hb
  iapply (wp_gather (F := F) 22 (by omega) hw rfl (fun h => h)) $$ Hb; iintro Hb
  iapply (wp_gather (F := F) 23 (by omega) hw rfl (fun h => h)) $$ Hb; iintro Hb
  iapply (wp_gather (F := F) 24 (by omega) hw rfl (fun h => h)) $$ Hb; iintro Hb
  rw [wp_pure]; imodintro; dsimp only
  rw [wp_bind, k0_part18_eq_skeleton]; unfold k0_part18_skel
  iapply (wp_gather (F := F) 25 (by omega) hw rfl (fun h => h)) $$ Hb; iintro Hb
  iapply (wp_gather (F := F) 26 (by omega) hw rfl (fun h => h)) $$ Hb; iintro Hb
  iapply (wp_gather (F := F) 27 (by omega) hw rfl (fun h => h)) $$ Hb; iintro Hb
  iapply (wp_gather (F := F) 28 (by omega) hw rfl (fun h => h)) $$ Hb; iintro Hb
  iapply (wp_gather (F := F) 29 (by omega) hw rfl (fun h => h)) $$ Hb; iintro Hb
  rw [wp_pure]; imodintro; dsimp only
  rw [wp_bind, k0_part19_eq_skeleton]; unfold k0_part19_skel
  iapply (wp_gather (F := F) 30 (by omega) hw rfl (fun h => h)) $$ Hb; iintro Hb
  iapply (wp_gather (F := F) 31 (by omega) hw rfl (fun h => h)) $$ Hb; iintro Hb
  iapply (wp_gather (F := F) 32 (by omega) hw rfl (fun h => h)) $$ Hb; iintro Hb
  iapply (wp_gather (F := F) 33 (by omega) hw rfl (fun h => h)) $$ Hb; iintro Hb
  rw [wp_pure]; imodintro; dsimp only
  rw [wp_bind, k0_part20_eq_skeleton]; unfold k0_part20_skel
  iapply (wp_gather (F := F) 34 (by omega) hw rfl (fun h => h)) $$ Hb; iintro Hb
  iapply (wp_gather (F := F) 35 (by omega) hw rfl (fun h => h)) $$ Hb; iintro Hb
  iapply (wp_gather (F := F) 36 (by omega) hw rfl (fun h => h)) $$ Hb; iintro Hb
  iapply (wp_gather (F := F) 37 (by omega) hw rfl (fun h => h)) $$ Hb; iintro Hb
  rw [wp_pure]; imodintro; dsimp only
  rw [wp_bind, k0_part21_eq_skeleton]; unfold k0_part21_skel
  iapply (wp_gather (F := F) 38 (by omega) hw rfl (fun h => h)) $$ Hb; iintro Hb
  iapply (wp_gather (F := F) 39 (by omega) hw rfl (fun h => h)) $$ Hb; iintro Hb
  iapply (wp_gather (F := F) 40 (by omega) hw rfl (fun h => h)) $$ Hb; iintro Hb
  iapply (wp_gather (F := F) 41 (by omega) hw rfl (fun h => h)) $$ Hb; iintro Hb
  iapply (wp_check (F := F) 42 (by omega) hw rfl (fun h => h))
  rw [wp_pure]; imodintro; dsimp only
  rw [wp_bind, k0_part22_eq_skeleton]; unfold k0_part22_skel
  iapply (wp_gather' (F := F) 42 (by omega) hw rfl) $$ Hb; iintro Hb
  iapply (wp_gather (F := F) 43 (by omega) hw rfl (fun h => h)) $$ Hb; iintro Hb
  iapply (wp_gather (F := F) 44 (by omega) hw rfl (fun h => h)) $$ Hb; iintro Hb
  iapply (wp_gather (F := F) 45 (by omega) hw rfl (fun h => h)) $$ Hb; iintro Hb
  iapply (wp_gather (F := F) 46 (by omega) hw rfl (fun h => h)) $$ Hb; iintro Hb
  rw [wp_pure]; imodintro; dsimp only
  iapply (wp_gather (F := F) 47 (by omega) hw rfl (fun h => h)) $$ Hb; iintro Hb
  iapply (wp_gather (F := F) 48 (by omega) hw rfl (fun h => h)) $$ Hb; iintro Hb
  iapply (wp_gather (F := F) 49 (by omega) hw rfl (fun h => h)) $$ Hb; iintro Hb
  iapply (wp_putRow (F := F)) $$ H6; iintro H6
  rw [wp_pure]; imodintro
  isplitl [Hb]; · iexact Hb
  iexact H6

end Step

end Cert.Proof.SegMax

end
-- ==== Proof.Model.lean ====
/-
  What the tiles compute, as functions of the flat array of section scores: where each step's words lie in it, what a
  staging buffer holds after the step's copies, and the array of partial maxima — with the closed forms of the
  program's copy offsets.
-/
module

public import proofs.«01_k».proof.Proof.Rows

@[expose] public section

noncomputable section

namespace Cert.Proof.SegMax

open Cert.KernelIdeal Cert.KernelIdeal.Gen

open Idealize.ShloMosaic

variable {F : FTy → Type} [FloatOps F]

/-! ## Where a step reads and writes -/

/-- Tile `w`'s step `s` reads from this word of the flat array: column quarter `s % 4`, rows of the chunk `s / 4`. -/
def src (w s : ℕ) : ℕ := 2 * (s % 4) * 6553600 + (w * 200 + 25 * (s / 4) / 2) * 1024

/-- The position of the chunk's first row in the staging buffer. -/
def base (s : ℕ) : ℕ := s / 4 % 2 * 64

/-- A word of the flat array as an index of it. -/
def flat (n : ℕ) : S52428800.Idx := Shape.ofLane (d := ![52428800]) ⟨n % 52428800, Nat.mod_lt _ (by decide)⟩

/-- A staging buffer after the copies from the words `o …`: 13312 words from there, 13312 from the next eight columns. -/
def bufVal (A : S52428800.Idx → F .f32) (o : ℕ) : S26624.Idx → F .f32 :=
  fun n => A (flat (o + if (n 0).val < 13312 then (n 0).val else (n 0).val - 13312 + 6553600))

/-- The step at which a tile writes an element of the partial maxima. -/
def stepOf (y : S4x16384x16.Idx) : ℕ := 4 * ((y 1).val % 512 / 32) + (y 0).val

/-- The partial maxima: of sixteen columns, over the fifty rows of each segment. -/
def partials (A : S52428800.Idx → F .f32) : S4x16384x16.Idx → F .f32 := fun y =>
  rowV (bufVal A (src ((y 1).val / 512) (stepOf y))) (base (stepOf y) + 50 * ((y 1).val % 32)) (Shape.ofLane (d := ![16]) (y 2))

/-- The rows of the partial maxima that tile `w` writes. -/
def tileRows (w : ℕ) : Finset S4x16384x16.Idx := Finset.univ.filter fun y => (y 1).val / 512 = w

/-! ## The program's offsets -/

/-- The first of the program's guards says a next pair exists. -/
theorem cond1_iff : ∀ t : Fin k0_t1_loop.trips, k0_cond1 t = 1#1 ↔ t.val + 1 < 32 := by decide +kernel

theorem off1_0 : ∀ i : grid0.Coords, k0_off1 i 0#32 = ![src (wid i) 0] := by decide +kernel
theorem off1_1 : ∀ i : grid0.Coords, k0_off1 i 6553600#32 = ![src (wid i) 0 + 6553600] := by decide +kernel
theorem off2_eq : ∀ (i : grid0.Coords) (t : Fin k0_t1_loop.trips), k0_off2 i t = ![src (wid i) (2 * t.val + 1)] := by decide +kernel
theorem off3_eq : ∀ (i : grid0.Coords) (t : Fin k0_t1_loop.trips), k0_off3 i t = ![src (wid i) (2 * t.val + 1) + 6553600] := by decide +kernel
theorem off6_eq : ∀ (i : grid0.Coords) (t : Fin k0_t1_loop.trips), k0_cond1 t = 1#1 → k0_off6 i t = ![src (wid i) (2 * (t.val + 1))] := by
  decide +kernel
theorem off7_eq : ∀ (i : grid0.Coords) (t : Fin k0_t1_loop.trips), k0_cond1 t = 1#1 → k0_off7 i t = ![src (wid i) (2 * (t.val + 1)) + 6553600] := by
  decide +kernel
theorem off5_eq : ∀ (i : grid0.Coords) (t : Fin k0_t1_loop.trips), k0_off5 i t = ![2 * t.val % 4, wid i * 512 + 2 * t.val / 4 * 32, 0] := by
  decide +kernel
theorem off9_eq : ∀ (i : grid0.Coords) (t : Fin k0_t1_loop.trips),
    k0_off9 i t = ![(2 * t.val + 1) % 4, wid i * 512 + (2 * t.val + 1) / 4 * 32, 0] := by
  decide +kernel

/-- The position at which the first slot's chunk starts, as the program computes it. -/
theorem base_even : ∀ t : Fin k0_t1_loop.trips,
    Scalar.muli (Scalar.andi (Scalar.shrsi (Scalar.muli (Scf.iv 0#32 1#32 t) 2#32) 2#32) 1#32) 64#32 = BitVec.ofNat 32 (base (2 * t.val)) := by
  decide +kernel
/-- The position at which the second slot's chunk starts. -/
theorem base_odd : ∀ t : Fin k0_t1_loop.trips,
    Scalar.muli (Scalar.andi (Scalar.shrsi (Scalar.addi (Scalar.muli (Scf.iv 0#32 1#32 t) 2#32) 1#32) 2#32) 1#32) 64#32
      = BitVec.ofNat 32 (base (2 * t.val + 1)) := by
  decide +kernel

theorem base_le (s : ℕ) : base s ≤ 64 := by unfold base; omega
theorem wid_lt (L : grid0.Coords) : wid L < 32 := by
  have h0 : (L 0).val < 2 := (L 0).isLt
  have h1 : (L 1).val < 16 := (L 1).isLt
  unfold wid; omega
theorem src_lt {w s : ℕ} (hw : w < 32) (hs : s < 64) : src w s + 6553600 + 13312 ≤ 52428800 := by unfold src; omega

end Cert.Proof.SegMax

end
-- ==== Proof.Copies.lean ====
/-
  A tile's copies: the two that fill a staging buffer, both counted on the slot's semaphore and drained by two waits, and
  the one that writes thirty-two finished rows to the array of partial maxima.
-/
module

public import proofs.«01_k».proof.Proof.Model
public import Idealize.ShloMosaic.Lib.ViewIndex
public import Idealize.ShloMosaic.Lib.ValueLayout

@[expose] public section

noncomputable section

namespace Cert.Proof.SegMax

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay)

variable {F : FTy → Type} [FloatOps F]

local notation "𝕄" => MT nD τ sig (HIx 1) (Elt F) ℕ UU ℕ

/-! ## The halves of a staging buffer -/

/-- The rectangles of a staging buffer's two halves. -/
abbrev rLo : Rect S26624 := Rect.unit (s := S26624) ![0] S13312.size inb_S26624_S13312_0
abbrev rHi : Rect S26624 := Rect.unit (s := S26624) ![13312] S13312.size inb_S26624_S13312_13312
/-- The two halves of a staging buffer, as the program slices them. -/
abbrev lo (b : Memref sig .scVector .vmem S26624 .f32) : Memref sig .scVector .vmem S13312 .f32 := b.slice rLo (fun _ => rfl)
abbrev hi (b : Memref sig .scVector .vmem S26624 .f32) : Memref sig .scVector .vmem S13312 .f32 := b.slice rHi (fun _ => rfl)

theorem lo_disjoint_hi (b : Memref sig .scVector .vmem S26624 .f32) : Disjoint (lo b).view.set (hi b).view.set :=
  View.disjoint_slice (Rect.unit_disjoint 0 (.inl (by decide)))

theorem lo_union_hi (b : Memref sig .scVector .vmem S26624 .f32) : (lo b).view.set ∪ (hi b).view.set = b.view.set := by
  have e : (rLo.set ∪ rHi.set : Finset S26624.Idx) = Finset.univ := by
    refine Finset.eq_univ_iff_forall.mpr fun y => ?_
    have hy : (y 0).val < 26624 := (y 0).isLt
    rw [Finset.mem_union, Rect.mem_set_unit, Rect.mem_set_unit]
    rcases Nat.lt_or_ge (y 0).val 13312 with h | h
    · exact .inl (Fin.forall_fin_one.mpr ⟨Nat.zero_le _, show (y 0).val < 0 + 13312 by omega⟩)
    · exact .inr (Fin.forall_fin_one.mpr ⟨h, show (y 0).val < 13312 + 13312 by omega⟩)
  show (b.view.slice rLo).set ∪ (b.view.slice rHi).set = _
  rw [View.set_slice, View.set_slice, ← Finset.map_union, e]; rfl

section Copy

variable {d : Dev nD} {L : grid0.Coords}
variable {x : Memref sig .scVector .hbm S52428800 .f32} {b : Memref sig .scVector .vmem S26624 .f32} {o : Memref sig .scVector .vmem S32x16 .f32}
  {y : Memref sig .scVector .hbm S4x16384x16 .f32} {sm : DmaSems sig S_}

variable (d L x b) in
/-- The contents of a staging buffer after the copies from the words `n …` of the flat array. -/
def staged (fx : Buf (Elt F) (x.view.loc (tile d L))) (f₀ : Buf (Elt F) (b.view.loc (tile d L))) (n : ℕ) : Buf (Elt F) (b.view.loc (tile d L)) :=
  b.view.write (Elt F) f₀ (bufVal (x.view.read (Elt F) fx) n) Finset.univ

theorem read_staged (fx : Buf (Elt F) (x.view.loc (tile d L))) (f₀ : Buf (Elt F) (b.view.loc (tile d L))) (n : ℕ) :
    b.view.read (Elt F) (staged d L x b fx f₀ n) = bufVal (x.view.read (Elt F) fx) n := View.read_write_univ _ _

variable (d L x b) in
/-- What the two copies of a step deliver: the buffer's halves at the step's contents. -/
def halves (fx : Buf (Elt F) (x.view.loc (tile d L))) (f₀ : Buf (Elt F) (b.view.loc (tile d L))) (n : ℕ) : Fin 2 → sProp 𝕄
  | ⟨0, _⟩ => (lo b).view.loc (tile d L) ↦[(lo b).view.set]{fullShare} staged d L x b fx f₀ n
  | ⟨1, _⟩ => (hi b).view.loc (tile d L) ↦[(hi b).view.set]{fullShare} staged d L x b fx f₀ n

instance halves_storable (fx : Buf (Elt F) (x.view.loc (tile d L))) (f₀ : Buf (Elt F) (b.view.loc (tile d L))) (n : ℕ) :
    ∀ t, Storable (upEmb : UEmb _ 𝕄) (halves d L x b fx f₀ n t)
  | ⟨0, _⟩ => by unfold halves; infer_instance
  | ⟨1, _⟩ => by unfold halves; infer_instance

theorem halves_join (fx : Buf (Elt F) (x.view.loc (tile d L))) (f₀ : Buf (Elt F) (b.view.loc (tile d L))) (n : ℕ) :
    (bigSep Finset.univ (halves d L x b fx f₀ n) : sProp 𝕄) ⊢ b.view.loc (tile d L) ↦[b.view.set]{fullShare} staged d L x b fx f₀ n := by
  rw [Idealize.SL.BI.bigSep_univ_eq_bigSepL [0, 1] (by decide) (by decide) _, ← lo_union_hi b]
  exact (pointsTo_union (lo_disjoint_hi b)).2

/-- A copy of 13312 words into a half lands the step's contents there. -/
theorem landed {k : ℕ} (fx : Buf (Elt F) (x.view.loc (tile d L))) (f₀ fd : Buf (Elt F) (b.view.loc (tile d L)))
    {off : Fin 1 → ℕ} {inb : ∀ a, off a + S13312.size a ≤ S52428800.size a} {inb' : ∀ a, ![k] a + S13312.size a ≤ S26624.size a} {n n' : ℕ}
    (hoff : off = ![n']) (hn : ∀ j < 13312, n + (if k + j < 13312 then k + j else k + j - 13312 + 6553600) = n' + j)
    {q : PosShare TreeShare} :
    (iprop((b.view.loc (tile d L) ↦[(b.slice (Rect.unit (s := S26624) ![k] S13312.size inb') (fun _ => rfl)).view.set]{fullShare}
        ((b.slice (Rect.unit (s := S26624) ![k] S13312.size inb') (fun _ => rfl)).view.write (Elt F) fd
          (ReadAs.same.apply ((x.slice (Rect.unit (s := S52428800) off S13312.size inb) (fun _ => rfl)).view.read (Elt F) fx)) Finset.univ))
      ∗ ((x.slice (Rect.unit (s := S52428800) off S13312.size inb) (fun _ => rfl)).view.loc (tile d L)
          ↦[(x.slice (Rect.unit (s := S52428800) off S13312.size inb) (fun _ => rfl)).view.set]{q} fx)) : sProp 𝕄)
      ⊢ b.view.loc (tile d L) ↦[(b.slice (Rect.unit (s := S26624) ![k] S13312.size inb') (fun _ => rfl)).view.set]{fullShare} staged d L x b fx f₀ n := by
  refine sep_elim_left.trans (Entails.of_eq (pointsTo_congr fun i hi => ?_))
  obtain ⟨z, -, rfl⟩ := Finset.mem_map.mp hi
  refine View.eq_of_read_eq (v := (b.slice (Rect.unit (s := S26624) ![k] S13312.size inb') (fun _ => rfl)).view) (x := z) ?_
  rw [View.read_write_univ]
  have hz : (z 0).val < 13312 := (z 0).isLt
  have e : (b.slice (Rect.unit (s := S26624) ![k] S13312.size inb') (fun _ => rfl)).view.read (Elt F) (staged d L x b fx f₀ n) z
      = bufVal (x.view.read (Elt F) fx) n ((Rect.unit (s := S26624) ![k] S13312.size inb').emb z) := by
    rw [← read_staged (b := b) fx f₀ n]; rfl
  refine Eq.trans ?_ e.symm
  subst hoff
  show x.view.read (Elt F) fx ((Rect.unit (s := S52428800) ![n'] S13312.size inb).emb z) = _
  unfold bufVal
  refine congrArg _ (funext fun a => Fin.ext ?_)
  obtain rfl : a = 0 := Subsingleton.elim _ _
  have hb : n' + 13312 ≤ 52428800 := inb 0
  have h1 : ((Rect.unit (s := S52428800) ![n'] S13312.size inb).emb z 0).val = n' + (z 0).val := by
    show n' + 1 * (z 0).val = _; rw [Nat.one_mul]
  have h2 : ((Rect.unit (s := S26624) ![k] S13312.size inb').emb z 0).val = k + (z 0).val := by
    show k + 1 * (z 0).val = _; rw [Nat.one_mul]
  rw [h1, h2]
  show _ = (_ % 52428800)
  rw [hn _ hz, Nat.mod_eq_of_lt (by omega)]

/-- Both copies of a step issued on the slot's semaphore: half of the flat array's share goes with them. -/
theorem wp_fill {α : Type} {Q : α → sProp 𝕄} (fx : Buf (Elt F) (x.view.loc (tile d L))) (f₀ f : Buf (Elt F) (b.view.loc (tile d L)))
    {off off' : Fin 1 → ℕ} {inb : ∀ a, off a + S13312.size a ≤ S52428800.size a} {inb' : ∀ a, off' a + S13312.size a ≤ S52428800.size a} {n : ℕ}
    (hoff : off = ![n]) (hoff' : off' = ![n + 6553600]) {q : PosShare TreeShare}
    {h1 h2 h3 h4 h5 h6}
    {k : PUnit → Prog (TpuEff nD τ sig (Elt F) Λ₀ (tile d L).2) α} :
    (iprop((x.view.loc (tile d L) ↦[x.view.set]{q} fx) ∗ (b.view.loc (tile d L) ↦[b.view.set]{fullShare} f) ∗ semVal (tile d L, .dma sm.sem) 0) : sProp 𝕄)
      ⊢ iprop((iprop((∃ q', x.view.loc (tile d L) ↦[x.view.set]{q'} fx)
            ∗ Transfers.Batch EC (tile d L) (.dma sm.sem) none (lo b).view.dmaCredit (halves d L x b fx f₀ n) 2 0)
          -∗ wp frame (wpE (defs₀ (F := F)) 𝒱₀ (tile d L) none) Set.univ (k ⟨⟩) Q)
        -∗ wp frame (wpE (defs₀ (F := F)) 𝒱₀ (tile d L) none) Set.univ
          (Prog.lift (.enqueueDma (x.slice (Rect.unit (s := S52428800) off S13312.size inb) (fun _ => rfl)) (.here (lo b)) (.dma sm.sem) h1 h2 h3) >>= fun _ =>
            Prog.lift (.enqueueDma (x.slice (Rect.unit (s := S52428800) off' S13312.size inb') (fun _ => rfl)) (.here (hi b)) (.dma sm.sem) h4 h5 h6) >>= k) Q) := by
  simp only [Prog.lift, Prog.bind_op, Prog.bind_ret]
  iintro ⟨Hx, Hb, Hs⟩ Hk
  imod (Transfers.batch_alloc' EC (tile d L) none (lo b).view.dmaCredit (halves d L x b fx f₀ n) (sm := .dma sm.sem) (E := Set.univ)) $$ Hs with HB
  ihave Hb' := (show (b.view.loc (tile d L) ↦[b.view.set]{fullShare} f : sProp 𝕄)
      ⊢ iprop(((lo b).view.loc (tile d L) ↦[(lo b).view.set]{fullShare} f) ∗ (hi b).view.loc (tile d L) ↦[(hi b).view.set]{fullShare} f) by
    rw [← lo_union_hi b]; exact (pointsTo_union (lo_disjoint_hi b)).1) $$ Hb
  icases Hb' with ⟨Hlo, Hhi⟩
  ihave Hx' := (pointsTo_share (PosShare.mem_left_op_right _)).1 $$ Hx
  icases Hx' with ⟨Hx, Hy⟩
  ihave Hy' := (pointsTo_share (PosShare.mem_left_op_right _)).1 $$ Hy
  icases Hy' with ⟨Hy, Hz⟩
  ihave Hy' := (pointsTo_split_subset (View.set_slice_subset (v := x.view) (Rect.unit (s := S52428800) off S13312.size inb))).1 $$ Hy
  icases Hy' with ⟨Hy, -⟩
  ihave Hz' := (pointsTo_split_subset (View.set_slice_subset (v := x.view) (Rect.unit (s := S52428800) off' S13312.size inb'))).1 $$ Hz
  icases Hz' with ⟨Hz, -⟩
  iapply (Transfers.wp_dmaBatch (defs := defs₀ (F := F)) EC 𝒱₀ (tile d L) none
    (src := x.slice (Rect.unit (s := S52428800) off S13312.size inb) (fun _ => rfl)) (dst := lo b) (q := q.right.left)
    none (lo b).view.dmaCredit rfl subset_rfl (D := halves d L x b fx f₀ n) (j := 0) (u := 0) (by decide) (Nat.zero_le _)
    (landed fx f₀ f hoff fun j hj => by simp [hj])) $$ [Hy Hlo HB]
  · isplitl [Hy]; · iexact Hy
    isplitl [Hlo]; · iexact Hlo
    iexact HB
  iintro HB
  iapply (Transfers.wp_dmaBatch (defs := defs₀ (F := F)) EC 𝒱₀ (tile d L) none
    (src := x.slice (Rect.unit (s := S52428800) off' S13312.size inb') (fun _ => rfl)) (dst := hi b) (q := q.right.right)
    none (lo b).view.dmaCredit rfl subset_rfl (D := halves d L x b fx f₀ n) (j := 1) (u := 0) (by decide) (Nat.zero_le _)
    (landed fx f₀ f hoff' fun j hj => by simp; omega)) $$ [Hz Hhi HB]
  · isplitl [Hz]; · iexact Hz
    isplitl [Hhi]; · iexact Hhi
    iexact HB
  iintro HB
  iapply Hk
  isplitl [Hx]; · iexists _; iexact Hx
  iexact HB

/-! ## The waits -/

variable (d L) in
/-- What the tile owes, its own waits so far beside those it began with. -/
def owing (O : CellTallies nD τ sig (HIx 1)) (W : Waits sig (HIx 1)) : sProp 𝕄 :=
  iprop(∃ W', ⌜∀ p ∈ W', p ∈ W ∨ p.2 = none⌝ ∗ owes (tile d L) O W')

theorem owing_wait {O : CellTallies nD τ sig (HIx 1)} {W W' : Waits sig (HIx 1)} (h : ∀ p ∈ W', p ∈ W ∨ p.2 = none) (s : SemLoc sig) :
    (owes (tile d L) O (insert (s, none) W') : sProp 𝕄) ⊢ owing d L O W := by
  unfold owing
  iintro H
  iexists insert (s, none) W'
  isplitr
  · ipureintro
    intro p hp
    rcases Finset.mem_insert.mp hp with hp | hp
    · exact .inr (congrArg Prod.snd hp)
    · exact h p hp
  · iexact H

/-- The first wait of a slot: nothing is handed back yet. -/
theorem wp_drain1 {α : Type} {Q : α → sProp 𝕄} {fx : Buf (Elt F) (x.view.loc (tile d L))} {f₀ : Buf (Elt F) (b.view.loc (tile d L))} {n : ℕ}
    {O : CellTallies nD τ sig (HIx 1)} {W : Waits sig (HIx 1)} {s : Memref sig .scVector .hbm S13312 .f32} {h1 h2}
    {k : PUnit → Prog (TpuEff nD τ sig (Elt F) Λ₀ (tile d L).2) α} :
    (iprop(Transfers.Batch EC (tile d L) (.dma sm.sem) none (lo b).view.dmaCredit (halves d L x b fx f₀ n) 2 0 ∗ owing d L O W
        ∗ Transfers.MayWaits (tile d L) none O) : sProp 𝕄)
      ⊢ iprop((iprop(Transfers.Batch EC (tile d L) (.dma sm.sem) none (lo b).view.dmaCredit (halves d L x b fx f₀ n) 2 (lo b).view.dmaCredit
            ∗ owing d L O W) -∗ wp frame (wpE (defs₀ (F := F)) 𝒱₀ (tile d L) none) Set.univ (k ⟨⟩) Q)
        -∗ wp frame (wpE (defs₀ (F := F)) 𝒱₀ (tile d L) none) Set.univ (Prog.lift (.waitDma2 sm.sem s (lo b) h1 h2) >>= k) Q) := by
  simp only [Prog.lift, Prog.bind_op, Prog.bind_ret]
  iintro ⟨HB, HO, HM⟩ Hk
  ihave HO' := (Entails.of_eq (by rw [owing])) $$ HO
  icases HO' with ⟨%W', %hW, HO⟩
  have hp : 0 < (lo b).view.dmaCredit := View.dmaCredit_pos _ (by decide)
  iapply (Transfers.wp_waitBatchO (defs := defs₀ (F := F)) EC 𝒱₀ (tile d L) none none (N := (lo b).view.dmaCredit) rfl (D := halves d L x b fx f₀ n) (u := 0)
    (by omega)) $$ [HB HO HM]
  · isplitl [HB]; · iexact HB
    isplitl [HO]; · iexact HO
    iapply (Transfers.MayWaits.elim (SemLoc.dma sm.sem)) $$ HM
  rw [Nat.zero_add]
  iintro ⟨HB, HO⟩
  iapply Hk
  isplitl [HB]; · iexact HB
  iapply (owing_wait hW _) $$ HO

/-- The second wait of a slot: the whole buffer is handed back at the step's contents, the semaphore at zero. -/
theorem wp_drain2 {α : Type} {Q : α → sProp 𝕄} {fx : Buf (Elt F) (x.view.loc (tile d L))} {f₀ : Buf (Elt F) (b.view.loc (tile d L))} {n : ℕ}
    {O : CellTallies nD τ sig (HIx 1)} {W : Waits sig (HIx 1)} {s : Memref sig .scVector .hbm S13312 .f32} {h1 h2}
    {k : PUnit → Prog (TpuEff nD τ sig (Elt F) Λ₀ (tile d L).2) α} :
    (iprop(Transfers.Batch EC (tile d L) (.dma sm.sem) none (lo b).view.dmaCredit (halves d L x b fx f₀ n) 2 (lo b).view.dmaCredit ∗ owing d L O W
        ∗ Transfers.MayWaits (tile d L) none O) : sProp 𝕄)
      ⊢ iprop((iprop((b.view.loc (tile d L) ↦[b.view.set]{fullShare} staged d L x b fx f₀ n) ∗ semVal (tile d L, .dma sm.sem) 0
            ∗ owing d L O W) -∗ wp frame (wpE (defs₀ (F := F)) 𝒱₀ (tile d L) none) Set.univ (k ⟨⟩) Q)
        -∗ wp frame (wpE (defs₀ (F := F)) 𝒱₀ (tile d L) none) Set.univ (Prog.lift (.waitDma2 sm.sem s (hi b) h1 h2) >>= k) Q) := by
  simp only [Prog.lift, Prog.bind_op, Prog.bind_ret]
  iintro ⟨HB, HO, HM⟩ Hk
  ihave HO' := (Entails.of_eq (by rw [owing])) $$ HO
  icases HO' with ⟨%W', %hW, HO⟩
  have hp : 0 < (lo b).view.dmaCredit := View.dmaCredit_pos _ (by decide)
  iapply (Transfers.wp_waitBatchLastO (defs := defs₀ (F := F)) EC 𝒱₀ (tile d L) none (srcw := s) (dstw := hi b) (hsrc := h1) (hdst := h2) (k := k) none (N := (lo b).view.dmaCredit) rfl hp (D := halves d L x b fx f₀ n) (u := (lo b).view.dmaCredit)
    (by omega)) $$ [HB HO HM]
  · isplitl [HB]; · iexact HB
    isplitl [HO]; · iexact HO
    iapply (Transfers.MayWaits.elim (SemLoc.dma sm.sem)) $$ HM
  iintro ⟨HD, HS, HO⟩
  iapply Hk
  isplitl [HD]; · iapply (halves_join fx f₀ n) $$ HD
  isplitl [HS]; · iexact HS
  iapply (owing_wait hW _) $$ HO

/-! ## The finished rows -/

/-- The output buffer's first `n` rows hold the maxima of step `s` of tile `w`. -/
def RowsHold (A : S52428800.Idx → F .f32) (w s n : ℕ) (g : S32x16.Idx → F .f32) : Prop :=
  ∀ z : S32x16.Idx, (z 0).val < n → g z = rowV (bufVal A (src w s)) (base s + 50 * (z 0).val) (Shape.ofLane (d := ![16]) (z 1))

variable (d L x y) in
/-- The tile's rows of the partial maxima, those of its first `n` steps computed. -/
def outDone (fx : Buf (Elt F) (x.view.loc (tile d L))) (n : ℕ) : sProp 𝕄 :=
  iprop(∃ f : Buf (Elt F) (y.view.loc (tile d L)),
    ⌜∀ z ∈ tileRows (wid L), stepOf z < n → y.view.read (Elt F) f z = partials (x.view.read (Elt F) fx) z⌝
      ∗ y.view.loc (tile d L) ↦[y.view.setOn (tileRows (wid L))]{fullShare} f)

/-- An element of the tile's rows is in the block of its step, at its row in the block and its column. -/
theorem block_index {off : Fin 3 → ℕ} {inb : ∀ a, off a + S1x32x16.size a ≤ S4x16384x16.size a} {w s : ℕ}
    (hoff : off = ![s % 4, w * 512 + s / 4 * 32, 0]) {z : S4x16384x16.Idx} (hz : (z 1).val / 512 = w) (hs : stepOf z = s)
    (h : S32x16.numel = S1x32x16.numel) :
    z = (Rect.unit (s := S4x16384x16) off S1x32x16.size inb).emb
      (Shape.reshapeEquiv h (ValueIdx.ix2 ⟨(z 1).val % 32, Nat.mod_lt _ (by decide)⟩ (z 2))) := by
  subst hoff
  have h0 : (z 0).val < 4 := (z 0).isLt
  unfold stepOf at hs
  refine funext fun a => Fin.ext ?_
  rw [show Shape.reshapeEquiv h (ValueIdx.ix2 ⟨(z 1).val % 32, Nat.mod_lt _ (by decide)⟩ (z 2)) = _ from Shape.reshapeEquiv_cons_one h _]
  match a with
  | ⟨0, _⟩ => show (z 0).val = s % 4 + 1 * 0; omega
  | ⟨1, _⟩ => show (z 1).val = w * 512 + s / 4 * 32 + 1 * ((z 1).val % 32); omega
  | ⟨2, _⟩ => show (z 2).val = 0 + 1 * (z 2).val; omega

/-- An element of the tile's block of step `s` is in the tile's rows, and of that step. -/
theorem of_block {off : Fin 3 → ℕ} {inb : ∀ a, off a + S1x32x16.size a ≤ S4x16384x16.size a} {w s : ℕ} (hs : s < 64)
    (hoff : off = ![s % 4, w * 512 + s / 4 * 32, 0]) {z : S4x16384x16.Idx} (hz : z ∈ (Rect.unit (s := S4x16384x16) off S1x32x16.size inb).set) :
    z ∈ tileRows w ∧ stepOf z = s := by
  subst hoff
  rw [Rect.mem_set_unit] at hz
  have h0 : s % 4 ≤ (z 0).val ∧ (z 0).val < s % 4 + 1 := hz 0
  have h1 : w * 512 + s / 4 * 32 ≤ (z 1).val ∧ (z 1).val < w * 512 + s / 4 * 32 + 32 := hz 1
  unfold tileRows stepOf
  rw [Finset.mem_filter]
  refine ⟨⟨Finset.mem_univ _, ?_⟩, ?_⟩ <;> omega

/-- The copy of the output buffer to the tile's block of step `s`, issued and waited for. -/
theorem wp_put {α : Type} {Q : α → sProp 𝕄} {fx : Buf (Elt F) (x.view.loc (tile d L))} {f : Buf (Elt F) (o.view.loc (tile d L))}
    {O : CellTallies nD τ sig (HIx 1)} {W : Waits sig (HIx 1)} {s : ℕ} (hs : s < 64)
    (hf : RowsHold (x.view.read (Elt F) fx) (wid L) s 32 (o.view.read (Elt F) f))
    {off : Fin 3 → ℕ} {inb : ∀ a, off a + S1x32x16.size a ≤ S4x16384x16.size a}
    (hoff : off = ![s % 4, wid L * 512 + s / 4 * 32, 0]) {h1 h2 h3 h4 h5}
    {k : PUnit → Prog (TpuEff nD τ sig (Elt F) Λ₀ (tile d L).2) α} :
    (iprop((o.view.loc (tile d L) ↦[o.view.set]{fullShare} f) ∗ outDone d L x y fx s ∗ semVal (tile d L, .dma sm.sem) 0 ∗ owing d L O W
        ∗ Transfers.MayWaits (tile d L) none O) : sProp 𝕄)
      ⊢ iprop((iprop((o.view.loc (tile d L) ↦[o.view.set]{fullShare} f) ∗ outDone d L x y fx (s + 1) ∗ semVal (tile d L, .dma sm.sem) 0 ∗ owing d L O W)
            -∗ wp frame (wpE (defs₀ (F := F)) 𝒱₀ (tile d L) none) Set.univ (k ⟨⟩) Q)
        -∗ wp frame (wpE (defs₀ (F := F)) 𝒱₀ (tile d L) none) Set.univ
          (Prog.lift (.enqueueDma o (.here ((y.slice (Rect.unit (s := S4x16384x16) off S1x32x16.size inb) (fun _ => rfl)).squeeze S32x16 squeezes_S1x32x16_S32x16))
              (.dma sm.sem) h1 h2 h3) >>= fun _ =>
            Prog.lift (.waitDma2 sm.sem o ((y.slice (Rect.unit (s := S4x16384x16) off S1x32x16.size inb) (fun _ => rfl)).squeeze S32x16 squeezes_S1x32x16_S32x16)
              h4 h5) >>= k) Q) := by
  simp only [Prog.lift, Prog.bind_op, Prog.bind_ret]
  unfold outDone
  iintro ⟨Ho, ⟨%g, %hg, Hy⟩, HS, HO, HM⟩ Hk
  ihave HO' := (Entails.of_eq (by rw [owing])) $$ HO
  icases HO' with ⟨%W', %hW, HO⟩
  have hset : ((y.slice (Rect.unit (s := S4x16384x16) off S1x32x16.size inb) (fun _ => rfl)).squeeze S32x16 squeezes_S1x32x16_S32x16).view.set
      = (y.view.slice (Rect.unit (s := S4x16384x16) off S1x32x16.size inb)).set :=
    View.set_reshape (v := y.view.slice (Rect.unit (s := S4x16384x16) off S1x32x16.size inb)) squeezes_S1x32x16_S32x16.numel_eq
  have hsub : ((y.slice (Rect.unit (s := S4x16384x16) off S1x32x16.size inb) (fun _ => rfl)).squeeze S32x16 squeezes_S1x32x16_S32x16).view.set
      ⊆ y.view.setOn (tileRows (wid L)) := by
    rw [hset, View.set_slice]
    exact Finset.map_subset_map.mpr fun z hz => (of_block hs hoff hz).1
  iapply (Transfers.wp_dmaLocal (defs := defs₀ (F := F)) EC 𝒱₀ (tile d L) none (src := o)
    (dst := (y.slice (Rect.unit (s := S4x16384x16) off S1x32x16.size inb) (fun _ => rfl)).squeeze S32x16 squeezes_S1x32x16_S32x16)
    none _ rfl (View.dmaCredit_pos _ (by decide)) hsub) $$ [Ho Hy HS]
  · isplitl [Ho]; · iexact Ho
    isplitl [Hy]; · iexact Hy
    iexact HS
  iintro HF
  iapply (Transfers.wp_waitLocalO (defs := defs₀ (F := F)) EC 𝒱₀ (tile d L) none none rfl) $$ [HF HO HM]
  · isplitl [HF]; · iexact HF
    isplitl [HO]; · iexact HO
    iapply (Transfers.MayWaits.elim (SemLoc.dma sm.sem)) $$ HM
  iintro ⟨⟨Hy, Ho⟩, HS, HO⟩
  iapply Hk
  isplitl [Ho]; · iexact Ho
  isplitl [Hy]
  · iexists _
    isplitr [Hy]
    swap; · iexact Hy
    ipureintro
    intro z hz hlt
    rcases Nat.lt_or_ge (stepOf z) s with h | h
    · rw [← hg z hz h]
      refine View.read_congr_at z (View.write_of_not_mem _ _ _ fun hm => ?_)
      have hm' : y.view.emb z ∈ (y.view.slice (Rect.unit (s := S4x16384x16) off S1x32x16.size inb)).set := hset ▸ hm
      rw [View.set_slice] at hm'
      have := (of_block hs hoff ((Finset.mem_map' y.view.emb).mp hm')).2
      omega
    · have hs' : stepOf z = s := by omega
      have hw : (z 1).val / 512 = wid L := (Finset.mem_filter.mp hz).2
      have hb := block_index (inb := inb) hoff hw hs' squeezes_S1x32x16_S32x16.numel_eq
      have hr := View.read_write_reshape (v := y.view.slice (Rect.unit (s := S4x16384x16) off S1x32x16.size inb)) (Val := Elt F)
        squeezes_S1x32x16_S32x16.numel_eq g (o.view.read (Elt F) f) (ValueIdx.ix2 ⟨(z 1).val % 32, Nat.mod_lt _ (by decide)⟩ (z 2))
      refine (congrArg (y.view.read (Elt F) _) hb).trans (hr.trans ((hf _ (Nat.mod_lt _ (by decide))).trans ?_))
      unfold partials
      rw [hs', hw]
  isplitl [HS]; · iexact HS
  iapply (owing_wait hW _) $$ HO

end Copy

end Cert.Proof.SegMax

end
-- ==== Proof.Tile.lean ====
/-
  A tile's run: the loops over the thirty-two segments of a chunk, and the loop over the pairs of steps with both staging
  buffers in flight.
-/
module

public import proofs.«01_k».proof.Proof.Copies

@[expose] public section

noncomputable section

namespace Cert.Proof.SegMax

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay)

variable {F : FTy → Type} [FloatOps F]

local notation "𝕄" => MT nD τ sig (HIx 1) (Elt F) ℕ UU ℕ

/-! ## The rows of a chunk -/

/-- Storing row `t`'s maxima extends the rows that hold by one. -/
theorem rowsHold_step {d : Dev nD} {L : grid0.Coords} {o : Memref sig .scVector .vmem S32x16 .f32} {A : S52428800.Idx → F .f32} {w s t : ℕ} {f : Buf (Elt F) (o.view.loc (tile d L))}
    (h : RowsHold A w s t (o.view.read (Elt F) f)) {off : Fin 2 → ℕ} {inb : ∀ a, off a + S1x16.size a ≤ S32x16.size a} (hoff : off = ![t, 0]) :
    RowsHold A w s (t + 1) (o.view.read (Elt F) ((o.access (Rect.unit (s := S32x16) off S1x16.size inb)).write (Elt F) f
      (shapeCast S1x16 (rowV (bufVal A (src w s)) (base s + 50 * t)) shapeCasts_S16_S1x16) Finset.univ)) := by
  intro z hz
  subst hoff
  rcases Nat.lt_or_ge (z 0).val t with hlt | hge
  · rw [View.read_slice_write_of_not_mem, h z hlt]
    intro hm
    have hm' : z ∈ (Rect.unit (s := S32x16) ![t, 0] S1x16.size inb).set := by rwa [Rect.map_emb_univ] at hm
    rw [Rect.mem_set_unit] at hm'
    have := (hm' 0).1
    have : t ≤ (z 0).val := this
    omega
  · have e : (z 0).val = t := by omega
    have hz' : z = (Rect.unit (s := S32x16) ![t, 0] S1x16.size inb).emb (ValueIdx.ix2 (0 : Fin 1) (z 1)) := by
      refine funext fun a => Fin.ext ?_
      match a with
      | ⟨0, _⟩ => show (z 0).val = t + 1 * 0; omega
      | ⟨1, _⟩ => show (z 1).val = 0 + 1 * (z 1).val; omega
    rw [e]
    refine (congrArg (o.view.read (Elt F) _) hz').trans ((View.read_slice_write_emb _ _ _ (Finset.mem_univ _)).trans ?_)
    refine (ValueIdx.shapeCast_a_1a_apply _ _ _ _).trans (congrArg _ (funext fun a => ?_))
    obtain rfl : a = 0 := Subsingleton.elim _ _
    rfl

section Loops

variable {d : Dev nD} {L : grid0.Coords}
variable {arg2 : Memref sig .scVector .hbm S52428800 .f32} {harg2 : arg2.IsWhole} {arg3 : Memref sig .scVector .hbm S4x16384x16 .f32} {harg3 : arg3.IsWhole}
  {arg4 : Memref sig .scVector .vmem S26624 .f32} {harg4 : arg4.IsWhole} {arg5 : Memref sig .scVector .vmem S26624 .f32} {harg5 : arg5.IsWhole}
  {arg6 : Memref sig .scVector .vmem S32x16 .f32} {harg6 : arg6.IsWhole} {arg7 arg8 v87_r0 v87_r1 : DmaSems sig S_}

/-- The first slot's loop: the output buffer ends with the step's thirty-two rows. -/
theorem t2_loop_wp {α : Type} {Q : α → sProp 𝕄} (v2 v3 : BitVec 32) (t1 : Fin k0_t1_loop.trips) (a9 v28 : BitVec 32) {v63 : BitVec 32} {A : S52428800.Idx → F .f32} {w s : ℕ}
    (hv : v63 = BitVec.ofNat 32 (base s)) (f : Buf (Elt F) (arg4.view.loc (tile d L))) (hf : arg4.view.read (Elt F) f = bufVal A (src w s))
    (f6 : Buf (Elt F) (arg6.view.loc (tile d L))) {k : Unit → Prog (TpuEff nD τ sig (Elt F) Λ₀ (tile d L).2) α} :
    iprop((arg4.view.loc (tile d L) ↦[arg4.view.set]{fullShare} f) ∗ (arg6.view.loc (tile d L) ↦[arg6.view.set]{fullShare} f6) : sProp 𝕄)
      ⊢ iprop((∀ f6' : Buf (Elt F) (arg6.view.loc (tile d L)), ⌜RowsHold A w s 32 (arg6.view.read (Elt F) f6')⌝
            -∗ iprop((arg4.view.loc (tile d L) ↦[arg4.view.set]{fullShare} f) ∗ (arg6.view.loc (tile d L) ↦[arg6.view.set]{fullShare} f6'))
            -∗ wp frame (wpE (defs₀ (F := F)) 𝒱₀ (tile d L) none) Set.univ (k ⟨⟩) Q)
        -∗ wp frame (wpE (defs₀ (F := F)) 𝒱₀ (tile d L) none) Set.univ
          (Scf.Loop.for k0_t2_loop k0_t2_ok ⟨⟩ (k0_t2_body L arg2 harg2 arg3 harg3 arg4 harg4 arg5 harg5 arg6 harg6 arg7 arg8 v87_r0 v87_r1 v2 v3 k0_pay1 t1 a9 v28 v63) >>= k) Q) := by
  have hb := base_le s
  iintro ⟨Hb, H6⟩ Hk
  iapply (Scf.wp_for_bind frame (wpE (defs₀ (F := F)) 𝒱₀ (tile d L) none) Set.univ _ _ _ k0_t2_ok _ _
    (fun n (_ : Unit) => iprop((arg4.view.loc (tile d L) ↦[arg4.view.set]{fullShare} f)
      ∗ ∃ g : Buf (Elt F) (arg6.view.loc (tile d L)), ⌜RowsHold A w s n (arg6.view.read (Elt F) g)⌝
        ∗ (arg6.view.loc (tile d L) ↦[arg6.view.set]{fullShare} g) : sProp 𝕄)) ?_) $$ [Hb H6]
  · intro t acc
    have ht : t.val < 32 := t.isLt
    iintro ⟨Hb, %g, %hg, H6⟩
    iapply ((t2_body_wp v2 v3 t1 a9 v28 t (M := base s) (by omega) hv f g).trans (wp_mono frame _ _ fun _ => ?_)) $$ [Hb H6]
    · iintro ⟨Hb, H6⟩
      isplitl [Hb]; · iexact Hb
      iexists _
      isplitr [H6]; swap; · iexact H6
      ipureintro
      rw [hf]
      exact rowsHold_step hg (k0_off4_eq t)
    · isplitl [Hb]; · iexact Hb
      iexact H6
  · isplitl [Hb]; · iexact Hb
    iexists f6
    isplitr; · ipureintro; intro z hz; exact absurd hz (Nat.not_lt_zero _)
    iexact H6
  · iintro %acc ⟨Hb, %g, %hg, H6⟩
    iapply Hk $$ %g
    · ipureintro; exact hg
    isplitl [Hb]; · iexact Hb
    iexact H6

/-- The second slot's loop: the output buffer ends with the step's thirty-two rows. -/
theorem t3_loop_wp {α : Type} {Q : α → sProp 𝕄} {v83 : BitVec 32} {A : S52428800.Idx → F .f32} {w s : ℕ}
    (hv : v83 = BitVec.ofNat 32 (base s)) (f : Buf (Elt F) (arg5.view.loc (tile d L))) (hf : arg5.view.read (Elt F) f = bufVal A (src w s))
    (f6 : Buf (Elt F) (arg6.view.loc (tile d L))) {k : Unit → Prog (TpuEff nD τ sig (Elt F) Λ₀ (tile d L).2) α} :
    iprop((arg5.view.loc (tile d L) ↦[arg5.view.set]{fullShare} f) ∗ (arg6.view.loc (tile d L) ↦[arg6.view.set]{fullShare} f6) : sProp 𝕄)
      ⊢ iprop((∀ f6' : Buf (Elt F) (arg6.view.loc (tile d L)), ⌜RowsHold A w s 32 (arg6.view.read (Elt F) f6')⌝
            -∗ iprop((arg5.view.loc (tile d L) ↦[arg5.view.set]{fullShare} f) ∗ (arg6.view.loc (tile d L) ↦[arg6.view.set]{fullShare} f6'))
            -∗ wp frame (wpE (defs₀ (F := F)) 𝒱₀ (tile d L) none) Set.univ (k ⟨⟩) Q)
        -∗ wp frame (wpE (defs₀ (F := F)) 𝒱₀ (tile d L) none) Set.univ
          (Scf.Loop.for k0_t3_loop k0_t3_ok ⟨⟩ (k0_t3_body L arg2 harg2 arg3 harg3 arg4 harg4 arg5 harg5 arg6 harg6 arg7 arg8 v87_r0 v87_r1 v83) >>= k) Q) := by
  have hb := base_le s
  iintro ⟨Hb, H6⟩ Hk
  iapply (Scf.wp_for_bind frame (wpE (defs₀ (F := F)) 𝒱₀ (tile d L) none) Set.univ _ _ _ k0_t3_ok _ _
    (fun n (_ : Unit) => iprop((arg5.view.loc (tile d L) ↦[arg5.view.set]{fullShare} f)
      ∗ ∃ g : Buf (Elt F) (arg6.view.loc (tile d L)), ⌜RowsHold A w s n (arg6.view.read (Elt F) g)⌝
        ∗ (arg6.view.loc (tile d L) ↦[arg6.view.set]{fullShare} g) : sProp 𝕄)) ?_) $$ [Hb H6]
  · intro t acc
    have ht : t.val < 32 := t.isLt
    iintro ⟨Hb, %g, %hg, H6⟩
    iapply ((t3_body_wp t (M := base s) (by omega) hv f g).trans (wp_mono frame _ _ fun _ => ?_)) $$ [Hb H6]
    · iintro ⟨Hb, H6⟩
      isplitl [Hb]; · iexact Hb
      iexists _
      isplitr [H6]; swap; · iexact H6
      ipureintro
      rw [hf]
      exact rowsHold_step hg (k0_off8_eq t)
    · isplitl [Hb]; · iexact Hb
      iexact H6
  · isplitl [Hb]; · iexact Hb
    iexists f6
    isplitr; · ipureintro; intro z hz; exact absurd hz (Nat.not_lt_zero _)
    iexact H6
  · iintro %acc ⟨Hb, %g, %hg, H6⟩
    iapply Hk $$ %g
    · ipureintro; exact hg
    isplitl [Hb]; · iexact Hb
    iexact H6

/-! ## The pairs of steps -/

variable (d L arg2 arg4 arg7) in
/-- The first slot between pairs: its copies of the next step are in flight, or no step is left. -/
def slot0 (fx : Buf (Elt F) (arg2.view.loc (tile d L))) (f₀ : Buf (Elt F) (arg4.view.loc (tile d L))) (t : ℕ) : sProp 𝕄 :=
  if t < 32 then Transfers.Batch EC (tile d L) (.dma arg7.sem) none (lo arg4).view.dmaCredit (halves d L arg2 arg4 fx f₀ (src (wid L) (2 * t))) 2 0
  else iprop((∃ f, arg4.view.loc (tile d L) ↦[arg4.view.set]{fullShare} f) ∗ semVal (tile d L, .dma arg7.sem) 0)

variable (d L arg2 arg3 arg4 arg5 arg6 arg7 arg8 v87_r0 v87_r1) in
/-- Before pair `t`: the first slot is in flight, the second at rest, and the rows of the first `2 t` steps are written. -/
def pairInv (fx : Buf (Elt F) (arg2.view.loc (tile d L))) (f₀ : Buf (Elt F) (arg4.view.loc (tile d L)))
    (O : CellTallies nD τ sig (HIx 1)) (W : Waits sig (HIx 1)) (t : ℕ) : sProp 𝕄 :=
  iprop((∃ q, arg2.view.loc (tile d L) ↦[arg2.view.set]{q} fx) ∗ slot0 d L arg2 arg4 arg7 fx f₀ t
    ∗ (∃ f, arg5.view.loc (tile d L) ↦[arg5.view.set]{fullShare} f) ∗ semVal (tile d L, .dma arg8.sem) 0
    ∗ (∃ f, arg6.view.loc (tile d L) ↦[arg6.view.set]{fullShare} f) ∗ semVal (tile d L, .dma v87_r0.sem) 0 ∗ semVal (tile d L, .dma v87_r1.sem) 0
    ∗ outDone d L arg2 arg3 fx (2 * t) ∗ owing d L O W ∗ Transfers.MayWaits (tile d L) none O)

/-- The second half of a pair: the second slot drained, reduced and written out. -/
theorem pair_tail_wp (t : Fin k0_t1_loop.trips) (fx : Buf (Elt F) (arg2.view.loc (tile d L))) (f₀ : Buf (Elt F) (arg4.view.loc (tile d L)))
    (f5 : Buf (Elt F) (arg5.view.loc (tile d L))) (f6 : Buf (Elt F) (arg6.view.loc (tile d L)))
    (O : CellTallies nD τ sig (HIx 1)) (W : Waits sig (HIx 1)) {s s' : Memref sig .scVector .hbm S13312 .f32} {h1 h2 h3 h4 h5 h6 h7 h8 h9} :
    iprop((∃ q, arg2.view.loc (tile d L) ↦[arg2.view.set]{q} fx) ∗ slot0 d L arg2 arg4 arg7 fx f₀ (t.val + 1)
      ∗ Transfers.Batch EC (tile d L) (.dma arg8.sem) none (lo arg5).view.dmaCredit (halves d L arg2 arg5 fx f5 (src (wid L) (2 * t.val + 1))) 2 0
      ∗ (arg6.view.loc (tile d L) ↦[arg6.view.set]{fullShare} f6) ∗ semVal (tile d L, .dma v87_r0.sem) 0 ∗ semVal (tile d L, .dma v87_r1.sem) 0
      ∗ outDone d L arg2 arg3 fx (2 * t.val + 1) ∗ owing d L O W ∗ Transfers.MayWaits (tile d L) none O)
      ⊢ wp frame (wpE (defs₀ (F := F)) 𝒱₀ (tile d L) none) Set.univ
          (Prog.lift (.waitDma2 arg8.sem s (lo arg5) h1 h2) >>= fun _ => Prog.lift (.waitDma2 arg8.sem s' (hi arg5) h3 h4) >>= fun _ => pure PUnit.unit)
          fun _ => wp frame (wpE (defs₀ (F := F)) 𝒱₀ (tile d L) none) Set.univ
            (Scf.Loop.for k0_t3_loop k0_t3_ok ⟨⟩ (k0_t3_body L arg2 harg2 arg3 harg3 arg4 harg4 arg5 harg5 arg6 harg6 arg7 arg8 v87_r0 v87_r1
                (Scalar.muli (Scalar.andi (Scalar.shrsi (Scalar.addi (Scalar.muli (Scf.iv 0#32 1#32 t.val) 2#32) 1#32) 2#32) 1#32) 64#32)) >>= fun _ =>
              Prog.lift (.enqueueDma arg6 (.here ((arg3.slice (Rect.unit (s := S4x16384x16) (k0_off9 L t) S1x32x16.size (k0_off9_inb L t)) (fun _ => rfl)).squeeze S32x16 squeezes_S1x32x16_S32x16))
                (.dma v87_r1.sem) h5 h6 h7) >>= fun _ =>
              Prog.lift (.waitDma2 v87_r1.sem arg6 ((arg3.slice (Rect.unit (s := S4x16384x16) (k0_off9 L t) S1x32x16.size (k0_off9_inb L t)) (fun _ => rfl)).squeeze S32x16 squeezes_S1x32x16_S32x16)
                h8 h9) >>= fun _ => pure ())
            fun _ => pairInv d L arg2 arg3 arg4 arg5 arg6 arg7 arg8 v87_r0 v87_r1 fx f₀ O W (t.val + 1) := by
  have ht : t.val < 32 := t.isLt
  iintro ⟨Hx, H4, H5, H6, HR0, HR1, HY, HO, #HM⟩
  iapply (wp_drain1 (s := s)) $$ [H5 HO HM]
  · isplitl [H5]; · iexact H5
    isplitl [HO]; · iexact HO
    iexact HM
  iintro ⟨H5, HO⟩
  iapply (wp_drain2 (s := s')) $$ [H5 HO HM]
  · isplitl [H5]; · iexact H5
    isplitl [HO]; · iexact HO
    iexact HM
  iintro ⟨H5, HS8, HO⟩
  rw [wp_pure]; imodintro
  iapply (t3_loop_wp (w := wid L) (s := 2 * t.val + 1) (base_odd t) (staged d L arg2 arg5 fx f5 (src (wid L) (2 * t.val + 1))) (read_staged _ _ _) f6) $$ [H5 H6]
  · isplitl [H5]; · iexact H5
    iexact H6
  iintro %g6 %hg6 ⟨H5, H6⟩
  iapply (wp_put (s := 2 * t.val + 1) (by omega) hg6 (off9_eq L t)) $$ [H6 HY HR1 HO HM]
  · isplitl [H6]; · iexact H6
    isplitl [HY]; · iexact HY
    isplitl [HR1]; · iexact HR1
    isplitl [HO]; · iexact HO
    iexact HM
  iintro ⟨H6, HY, HR1, HO⟩
  rw [wp_pure]; imodintro
  unfold pairInv
  isplitl [Hx]; · iexact Hx
  isplitl [H4]; · iexact H4
  isplitl [H5]; · iexists _; iexact H5
  isplitl [HS8]; · iexact HS8
  isplitl [H6]; · iexists _; iexact H6
  isplitl [HR0]; · iexact HR0
  isplitl [HR1]; · iexact HR1
  isplitl [HY]; · iexact HY
  isplitl [HO]; · iexact HO
  iexact HM

/-- A pair of steps: the second slot is filled, the first drained, reduced and written out, the first filled for the next
    pair if there is one, and the second drained, reduced and written out. -/
theorem pair_wp (v2 v3 : BitVec 32) (t : Fin k0_t1_loop.trips) (fx : Buf (Elt F) (arg2.view.loc (tile d L))) (f₀ : Buf (Elt F) (arg4.view.loc (tile d L)))
    (O : CellTallies nD τ sig (HIx 1)) (W : Waits sig (HIx 1)) :
    pairInv d L arg2 arg3 arg4 arg5 arg6 arg7 arg8 v87_r0 v87_r1 fx f₀ O W t.val
      ⊢ wp frame (wpE (defs₀ (F := F)) 𝒱₀ (tile d L) none) Set.univ
          (k0_t1_body L arg2 harg2 arg3 harg3 arg4 harg4 arg5 harg5 arg6 harg6 arg7 arg8 v87_r0 v87_r1 v2 v3 t ⟨⟩)
          fun _ => pairInv d L arg2 arg3 arg4 arg5 arg6 arg7 arg8 v87_r0 v87_r1 fx f₀ O W (t.val + 1) := by
  have ht : t.val < 32 := t.isLt
  unfold k0_t1_body pairInv
  iintro ⟨⟨%q, Hx⟩, H4, ⟨%f5, H5⟩, HS8, ⟨%f6, H6⟩, HR0, HR1, HY, HO, #HM⟩
  ihave H4 := (Entails.of_eq (show slot0 d L arg2 arg4 arg7 fx f₀ t.val = _ by unfold slot0; rw [if_pos ht])) $$ H4
  rw [wp_bind, k0_part23_eq_skeleton]; unfold k0_part23_skel
  iapply (wp_fill fx f5 f5 (off2_eq L t) (off3_eq L t) (q := q)) $$ [Hx H5 HS8]
  · isplitl [Hx]; · iexact Hx
    isplitl [H5]; · iexact H5
    iexact HS8
  iintro ⟨⟨%q1, Hx⟩, H5⟩
  iapply (wp_drain1 (s := arg2.slice (Rect.unit (s := S52428800) ![0] S13312.size inb_S52428800_S13312_0) (fun _ => rfl))) $$ [H4 HO HM]
  · isplitl [H4]; · iexact H4
    isplitl [HO]; · iexact HO
    iexact HM
  iintro ⟨H4, HO⟩
  rw [wp_pure]; imodintro; dsimp only
  rw [wp_bind, k0_part24_eq_skeleton]; unfold k0_part24_skel
  iapply (wp_drain2 (s := arg2.slice (Rect.unit (s := S52428800) ![0] S13312.size inb_S52428800_S13312_0) (fun _ => rfl))) $$ [H4 HO HM]
  · isplitl [H4]; · iexact H4
    isplitl [HO]; · iexact HO
    iexact HM
  iintro ⟨H4, HS7, HO⟩
  iapply (t2_loop_wp (w := wid L) (s := 2 * t.val) v2 v3 t _ _ (base_even t) (staged d L arg2 arg4 fx f₀ (src (wid L) (2 * t.val))) (read_staged _ _ _) f6) $$ [H4 H6]
  · isplitl [H4]; · iexact H4
    iexact H6
  iintro %g6 %hg6 ⟨H4, H6⟩
  iapply (wp_put (s := 2 * t.val) (by omega) hg6 (off5_eq L t)) $$ [H6 HY HR0 HO HM]
  · isplitl [H6]; · iexact H6
    isplitl [HY]; · iexact HY
    isplitl [HR0]; · iexact HR0
    isplitl [HO]; · iexact HO
    iexact HM
  iintro ⟨H6, HY, HR0, HO⟩
  dsimp only
  by_cases hc : k0_cond1 t = 1#1
  · rw [dif_pos hc]
    iapply (wp_fill fx f₀ (staged d L arg2 arg4 fx f₀ (src (wid L) (2 * t.val))) (off6_eq L t hc) (off7_eq L t hc) (q := q1)) $$ [Hx H4 HS7]
    · isplitl [Hx]; · iexact Hx
      isplitl [H4]; · iexact H4
      iexact HS7
    iintro ⟨Hx, H4⟩
    iapply (pair_tail_wp t fx f₀ f5 g6 O W) $$ [Hx H4 H5 H6 HR0 HR1 HY HO HM]
    isplitl [Hx]; · iexact Hx
    isplitl [H4]
    · iapply (Entails.of_eq (show _ = slot0 d L arg2 arg4 arg7 fx f₀ (t.val + 1) by unfold slot0; rw [if_pos ((cond1_iff t).mp hc)])) $$ H4
    isplitl [H5]; · iexact H5
    isplitl [H6]; · iexact H6
    isplitl [HR0]; · iexact HR0
    isplitl [HR1]; · iexact HR1
    isplitl [HY]; · iexact HY
    isplitl [HO]; · iexact HO
    iexact HM
  · rw [dif_neg hc]
    iapply (pair_tail_wp t fx f₀ f5 g6 O W) $$ [Hx H4 HS7 H5 H6 HR0 HR1 HY HO HM]
    isplitl [Hx]; · iexists _; iexact Hx
    isplitl [H4 HS7]
    · iapply (Entails.of_eq (show _ = slot0 d L arg2 arg4 arg7 fx f₀ (t.val + 1) by unfold slot0; rw [if_neg (fun h => hc ((cond1_iff t).mpr h))]))
      isplitl [H4]; · iexists _; iexact H4
      iexact HS7
    isplitl [H5]; · iexact H5
    isplitl [H6]; · iexact H6
    isplitl [HR0]; · iexact HR0
    isplitl [HR1]; · iexact HR1
    isplitl [HY]; · iexact HY
    isplitl [HO]; · iexact HO
    iexact HM

/-- The tile's run: its rows of the partial maxima are computed, its buffers and semaphores handed back. -/
theorem body_wp (fx : Buf (Elt F) (arg2.view.loc (tile d L))) (f₀ : Buf (Elt F) (arg4.view.loc (tile d L))) {q : PosShare TreeShare}
    (O : CellTallies nD τ sig (HIx 1)) (W : Waits sig (HIx 1)) :
    iprop((arg2.view.loc (tile d L) ↦[arg2.view.set]{q} fx) ∗ (arg4.view.loc (tile d L) ↦[arg4.view.set]{fullShare} f₀) ∗ semVal (tile d L, .dma arg7.sem) 0
      ∗ (∃ f, arg5.view.loc (tile d L) ↦[arg5.view.set]{fullShare} f) ∗ semVal (tile d L, .dma arg8.sem) 0
      ∗ (∃ f, arg6.view.loc (tile d L) ↦[arg6.view.set]{fullShare} f) ∗ semVal (tile d L, .dma v87_r0.sem) 0 ∗ semVal (tile d L, .dma v87_r1.sem) 0
      ∗ outDone d L arg2 arg3 fx 0 ∗ owing d L O W ∗ Transfers.MayWaits (tile d L) none O)
      ⊢ wp frame (wpE (defs₀ (F := F)) 𝒱₀ (tile d L) none) Set.univ
          (cc0__seg_max_body L arg2 harg2 arg3 harg3 arg4 harg4 arg5 harg5 arg6 harg6 arg7 arg8 v87_r0 v87_r1)
          fun _ => iprop((∃ f, arg4.view.loc (tile d L) ↦[arg4.view.set]{fullShare} f) ∗ semVal (tile d L, .dma arg7.sem) 0
            ∗ (∃ f, arg5.view.loc (tile d L) ↦[arg5.view.set]{fullShare} f) ∗ semVal (tile d L, .dma arg8.sem) 0
            ∗ (∃ f, arg6.view.loc (tile d L) ↦[arg6.view.set]{fullShare} f) ∗ semVal (tile d L, .dma v87_r0.sem) 0 ∗ semVal (tile d L, .dma v87_r1.sem) 0
            ∗ outDone d L arg2 arg3 fx 64 ∗ owing d L O W) := by
  rw [cc0__seg_max_body_eq_skeleton]; unfold cc0__seg_max_body_skel
  iintro ⟨Hx, H4, HS7, H5, HS8, H6, HR0, HR1, HY, HO, #HM⟩
  iapply (wp_fill fx f₀ f₀ (off1_0 L) (off1_1 L) (q := q)) $$ [Hx H4 HS7]
  · isplitl [Hx]; · iexact Hx
    isplitl [H4]; · iexact H4
    iexact HS7
  iintro ⟨Hx, H4⟩
  iapply (Scf.wp_for_bind frame (wpE (defs₀ (F := F)) 𝒱₀ (tile d L) none) Set.univ _ _ _ k0_t1_ok _ _
    (fun n (_ : Unit) => pairInv d L arg2 arg3 arg4 arg5 arg6 arg7 arg8 v87_r0 v87_r1 fx f₀ O W n)
    fun t _ => pair_wp _ _ t fx f₀ O W) $$ [Hx H4 H5 HS8 H6 HR0 HR1 HY HO HM]
  · unfold pairInv
    isplitl [Hx]; · iexact Hx
    isplitl [H4]
    · iapply (Entails.of_eq (show _ = slot0 d L arg2 arg4 arg7 fx f₀ 0 by unfold slot0; rw [if_pos (by decide)])) $$ H4
    isplitl [H5]; · iexact H5
    isplitl [HS8]; · iexact HS8
    isplitl [H6]; · iexact H6
    isplitl [HR0]; · iexact HR0
    isplitl [HR1]; · iexact HR1
    isplitl [HY]; · iexact HY
    isplitl [HO]; · iexact HO
    iexact HM
  rw [show Scf.trips k0_t1_loop.lb k0_t1_loop.ub k0_t1_loop.st = 32 by decide]
  unfold pairInv slot0
  rw [if_neg (by decide)]
  iintro %u HI
  icases HI with ⟨-, ⟨H4, HS7⟩, H5, HS8, H6, HR0, HR1, HY, HO, -⟩
  rw [wp_pure]; imodintro
  isplitl [H4]; · iexact H4
  isplitl [HS7]; · iexact HS7
  isplitl [H5]; · iexact H5
  isplitl [HS8]; · iexact HS8
  isplitl [H6]; · iexact H6
  isplitl [HR0]; · iexact HR0
  isplitl [HR1]; · iexact HR1
  isplitl [HY]; · iexact HY
  iexact HO

end Loops

end Cert.Proof.SegMax

end
-- ==== Proof.Dispatch.lean ====
/-
  The SparseCore call: what it takes and brings back, how a SparseCore's tiles share it, and each tile's task.
-/
module

public import proofs.«01_k».proof.Proof.Tile

@[expose] public section

noncomputable section

namespace Cert.Proof.SegMax

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay ownSems0 ownBufs ownCells ownRefs mem_ownCells)

variable {F : FTy → Type} [FloatOps F]

local notation "𝕄" => MT nD τ sig (HIx 1) (Elt F) ℕ UU ℕ

/-! ## The operands -/

/-- The flat array of section scores and the array of partial maxima, on device `d`. -/
abbrev xLoc (d : Dev nD) : Loc nD τ sig := (SparseCore.T d).loc main_v3
abbrev yLoc (d : Dev nD) : Loc nD τ sig := (SparseCore.T d).loc main_v4

/-- The tile number of subcore `i` of SparseCore `c`. -/
abbrev wN {a b : ℕ} (c : Fin a) (i : Fin b) : ℕ := 2 * i.val + c.val
/-- The rows of the partial maxima that SparseCore `c`'s tiles write. -/
def coreRows (c : Fin 2) : Finset S4x16384x16.Idx := (Finset.univ : Finset (Fin 16)).biUnion fun i => tileRows (wN c i)

theorem tileRows_disjoint {w w' : ℕ} (h : w ≠ w') : Disjoint (tileRows w) (tileRows w') := by
  refine Finset.disjoint_left.mpr fun z hz hz' => h ?_
  exact ((Finset.mem_filter.mp hz).2).symm.trans (Finset.mem_filter.mp hz').2

theorem coreRows_disjoint {c c' : Fin 2} (h : c ≠ c') : Disjoint (coreRows c) (coreRows c') := by
  refine Finset.disjoint_left.mpr fun z hz hz' => h ?_
  obtain ⟨i, -, hi⟩ := Finset.mem_biUnion.mp hz
  obtain ⟨i', -, hi'⟩ := Finset.mem_biUnion.mp hz'
  have h1 := (Finset.mem_filter.mp hi).2
  have h2 := (Finset.mem_filter.mp hi').2
  have e : 2 * i.val + c.val = 2 * i'.val + c'.val := h1.symm.trans h2
  have := c.isLt; have := c'.isLt
  exact Fin.ext (by omega)

theorem coreRows_cover : (Finset.univ : Finset (Fin 2)).biUnion coreRows = Finset.univ := by
  refine Finset.eq_univ_iff_forall.mpr fun z => Finset.mem_biUnion.mpr ?_
  have hz : (z 1).val < 16384 := (z 1).isLt
  refine ⟨⟨(z 1).val / 512 % 2, Nat.mod_lt _ (by decide)⟩, Finset.mem_univ _, Finset.mem_biUnion.mpr
    ⟨⟨(z 1).val / 512 / 2, by omega⟩, Finset.mem_univ _, Finset.mem_filter.mpr ⟨Finset.mem_univ _, ?_⟩⟩⟩
  show _ = 2 * ((z 1).val / 512 / 2) + (z 1).val / 512 % 2
  omega

/-! ## What the handshakes carry -/

section Payload

variable (fx : (d : Dev nD) → Buf (Elt F) (xLoc d)) (fy : (d : Dev nD) → Buf (Elt F) (yLoc d))

/-- The read share of the flat array that SparseCore `c` takes, and its subcore `i`'s share of it. -/
def qC (c : Fin 2) : PosShare TreeShare := Transfers.dealOf fullShare Finset.univ c
def qT (c : Fin 2) (i : Fin 16) : PosShare TreeShare := Transfers.dealOf (qC c) Finset.univ i

/-- The partial maxima of device `d`'s flat array, as contents of their buffer. -/
abbrev outOf (d : Dev nD) : Buf (Elt F) (yLoc d) := partials (F := F) (fx d)

abbrev stRes (d : Dev nD) (c : Fin 2) : sProp 𝕄 := iprop((xLoc d ↦{qC c} fx d) ∗ yLoc d ↦[coreRows c]{fullShare} fy d)
abbrev goRes (d : Dev nD) (c : Fin 2) (i : Fin 16) : sProp 𝕄 := iprop((xLoc d ↦{qT c i} fx d) ∗ yLoc d ↦[tileRows (wN c i)]{fullShare} fy d)
abbrev dnRes (d : Dev nD) (c : Fin 2) : sProp 𝕄 := yLoc d ↦[coreRows c]{fullShare} outOf fx d
abbrev tdRes (d : Dev nD) (c : Fin 2) (i : Fin 16) : sProp 𝕄 := yLoc d ↦[tileRows (wN c i)]{fullShare} outOf fx d

/-- The call takes read shares of the flat array and the array of partial maxima by rows, and brings the rows back with
    the maxima in them. -/
def P : (K (F := F)).Pay (nD := nD) (Val := Elt F) (Name := ℕ) (U := UU) where
  st := fun q d c => match q with | 0 => stRes fx fy d c
  dn := fun q d c => match q with | 0 => dnRes fx d c
  go := fun q d c i => match q with | 0 => goRes fx fy d c i
  td := fun q d c i => match q with | 0 => tdRes fx d c i
  x := fun _ _ => iprop(emp)

instance P_storable : (P (F := F) fx fy).IsStorable where
  st q d c := match q with | 0 => (inferInstance : BI.Storable (upEmb : UEmb _ 𝕄) (stRes fx fy d c))
  dn q d c := match q with | 0 => (inferInstance : BI.Storable (upEmb : UEmb _ 𝕄) (dnRes fx d c))
  go q d c i := match q with | 0 => (inferInstance : BI.Storable (upEmb : UEmb _ 𝕄) (goRes fx fy d c i))
  td q d c i := match q with | 0 => (inferInstance : BI.Storable (upEmb : UEmb _ 𝕄) (tdRes fx d c i))

/-- The whole array of partial maxima is the two SparseCores' rows, each its sixteen tiles' rows. -/
theorem y_cores (d : Dev nD) (f : Buf (Elt F) (yLoc d)) :
    (yLoc d ↦{fullShare} f : sProp 𝕄) = bigSep Finset.univ fun c : Fin 2 => yLoc d ↦[coreRows c]{fullShare} f := by
  rw [← pointsTo_biUnion Finset.univ (ℓ := yLoc d) coreRows (fun _ _ _ _ h => coreRows_disjoint h), coreRows_cover]

theorem y_tiles (d : Dev nD) (c : Fin 2) (f : Buf (Elt F) (yLoc d)) :
    (yLoc d ↦[coreRows c]{fullShare} f : sProp 𝕄) = bigSep Finset.univ fun i : Fin 16 => yLoc d ↦[tileRows (wN c i)]{fullShare} f := by
  rw [← pointsTo_biUnion Finset.univ (ℓ := yLoc d) (fun i : Fin 16 => tileRows (wN c i))
    (fun i _ j _ h => tileRows_disjoint fun e => h (Fin.ext (by have e' : 2 * i.val + c.val = 2 * j.val + c.val := e; omega)))]
  rfl

/-- A SparseCore's part of the call, shared among its tiles and gathered from them. -/
theorem vecSplit : (K (F := F)).VecSplit' (P fx fy) 0 := by
  intro d c
  show (stRes fx fy d c : sProp 𝕄) ⊢ |={Set.univ}=> iprop((bigSep Finset.univ fun i : Fin 16 => goRes fx fy d c i)
    ∗ ((bigSep Finset.univ fun i : Fin 16 => tdRes fx d c i) -∗ dnRes fx d c))
  unfold goRes stRes tdRes dnRes
  rw [bigSep_sep', y_tiles, y_tiles, Transfers.pointsTo_deal (Finset.univ : Finset (Fin 16)) Finset.univ_nonempty (qC c)]
  iintro ⟨Hx, Hy⟩
  imodintro
  isplitl [Hx Hy]
  · isplitl [Hx]; · iexact Hx
    iexact Hy
  iintro H
  iexact H

end Payload

/-! ## A tile's task -/

section Task

variable (d : Dev nD) (L : grid0.Coords)

abbrev xV : Memref sig .scVector .hbm S52428800 .f32 := Memref.whole main_v3_scv
abbrev yV : Memref sig .scVector .hbm S4x16384x16 .f32 := Memref.whole main_v4_scv
abbrev bA : Memref sig .scVector .vmem S26624 .f32 := Memref.whole cc0_scratch0
abbrev bB : Memref sig .scVector .vmem S26624 .f32 := Memref.whole cc0_scratch1
abbrev oV : Memref sig .scVector .vmem S32x16 .f32 := Memref.whole cc0_scratch2

/-- A tile's four transfer semaphores, as cells. -/
abbrev cell (sm : DmaSems sig S_) : GSem nD τ sig := (tile d L, .dma sm.sem)

theorem cell_own (sm : DmaSems sig S_) (h : (SemLoc.dma sm.sem : SemLoc sig).isScoped .scVector = true) : cell d L sm ∈ ownCells (tile d L) :=
  mem_ownCells.mpr ⟨rfl, h⟩

theorem cell_ne {a b : DmaSems sig S_} (h : (SemLoc.dma a.sem : SemLoc sig) ≠ .dma b.sem) : cell d L a ≠ cell d L b :=
  fun e => h (Prod.mk.inj e).2

/-- The four semaphores are among the tile's own. -/
theorem ownSems0_V :
    (ownSems0 (tile d L) : sProp 𝕄)
      = iprop(semVal (cell d L cc0_scratch3) 0 ∗ semVal (cell d L cc0_scratch4) 0 ∗ semVal (cell d L cc0_scoped0) 0 ∗ semVal (cell d L cc0_scoped1) 0
          ∗ bigSep (((((ownCells (tile d L)).erase (cell d L cc0_scratch3)).erase (cell d L cc0_scratch4)).erase (cell d L cc0_scoped0)).erase (cell d L cc0_scoped1))
              fun g => semVal g 0) := by
  unfold SparseCore.Cfg.ownSems0
  rw [SparseCore.bigSep_erase' (cell_own d L cc0_scratch3 (by decide)),
    SparseCore.bigSep_erase' (Finset.mem_erase.mpr ⟨cell_ne d L (by decide), cell_own d L cc0_scratch4 (by decide)⟩),
    SparseCore.bigSep_erase' (Finset.mem_erase.mpr ⟨cell_ne d L (by decide), Finset.mem_erase.mpr ⟨cell_ne d L (by decide), cell_own d L cc0_scoped0 (by decide)⟩⟩),
    SparseCore.bigSep_erase' (Finset.mem_erase.mpr ⟨cell_ne d L (by decide), Finset.mem_erase.mpr ⟨cell_ne d L (by decide),
      Finset.mem_erase.mpr ⟨cell_ne d L (by decide), cell_own d L cc0_scoped1 (by decide)⟩⟩⟩)]

/-- A tile's scratch buffer, as a buffer of its device. -/
abbrev ref (b : Ref sig .scVector) : DevRef τ sig := (Proc.scVector (cV L) (jV L)).devRef b

theorem ref_ne {a b : Ref sig .scVector} (h : a ≠ b) : ref L a ≠ ref L b := fun e => h (Proc.devRef_injective _ e)

/-- The three scratch buffers are among the tile's own. -/
theorem ownBufs_V :
    (ownBufs (tile d L) : sProp 𝕄)
      = iprop((∃ f, (tile d L).loc cc0_scratch0 ↦{fullShare} f) ∗ (∃ f, (tile d L).loc cc0_scratch1 ↦{fullShare} f)
          ∗ (∃ f, (tile d L).loc cc0_scratch2 ↦{fullShare} f)
          ∗ bigSep ((((ownRefs (τ := τ) (.scVector (cV L) (jV L))).erase (ref L cc0_scratch0)).erase (ref L cc0_scratch1)).erase (ref L cc0_scratch2))
              fun b => iprop(∃ f, ((d, b) : Loc nD τ sig) ↦{fullShare} f)) := by
  unfold SparseCore.Cfg.ownBufs
  have hm (b : Ref sig .scVector) (h : (ref L b).owner = .proc (.scVector (cV L) (jV L))) : ref L b ∈ ownRefs (τ := τ) (.scVector (cV L) (jV L)) :=
    SparseCore.Cfg.mem_ownRefs_of_owner (p := Proc.scVector (cV L) (jV L)) (b := ref L b) h
  refine (SparseCore.bigSep_erase' (hm cc0_scratch0 rfl)).trans ?_
  rw [SparseCore.bigSep_erase' (Finset.mem_erase.mpr ⟨ref_ne L (show (cc0_scratch1 : Ref sig .scVector) ≠ cc0_scratch0 by decide), hm cc0_scratch1 rfl⟩),
    SparseCore.bigSep_erase' (Finset.mem_erase.mpr ⟨ref_ne L (show (cc0_scratch2 : Ref sig .scVector) ≠ cc0_scratch1 by decide),
      Finset.mem_erase.mpr ⟨ref_ne L (show (cc0_scratch2 : Ref sig .scVector) ≠ cc0_scratch0 by decide), hm cc0_scratch2 rfl⟩⟩)]

/-- The tile's rows through the whole array's memref are those rows. -/
theorem yV_rows (w : ℕ) : (yV.view.setOn (tileRows w) : Finset S4x16384x16.Idx) = tileRows w := Finset.map_refl

/-- Before the first step nothing is claimed of the tile's rows. -/
theorem outDone_zero (fX : Buf (Elt F) (xLoc d)) (fY : Buf (Elt F) (yLoc d)) :
    (yLoc d ↦[tileRows (wid L)]{fullShare} fY : sProp 𝕄) ⊢ outDone d L xV yV fX 0 := by
  unfold outDone
  iintro H
  iexists fY
  isplitr; · ipureintro; intro _ _ h; exact absurd h (Nat.not_lt_zero _)
  iapply (Entails.of_eq (show (yLoc d ↦[tileRows (wid L)]{fullShare} fY : sProp 𝕄)
    = (yV.view.loc (tile d L) ↦[yV.view.setOn (tileRows (wid L))]{fullShare} fY) by rw [yV_rows])) $$ H

/-- After the last step they hold the partial maxima. -/
theorem outDone_all (fX : Buf (Elt F) (xLoc d)) :
    (outDone d L xV yV fX 64 : sProp 𝕄) ⊢ yLoc d ↦[tileRows (wid L)]{fullShare} partials (F := F) fX := by
  unfold outDone
  iintro ⟨%f, %hf, H⟩
  iapply (Entails.of_eq (show (yV.view.loc (tile d L) ↦[yV.view.setOn (tileRows (wid L))]{fullShare} f : sProp 𝕄)
      = (yLoc d ↦[tileRows (wid L)]{fullShare} partials (F := F) fX) by
    rw [yV_rows]
    refine pointsTo_congr fun z hz => hf z hz ?_
    have h0 : (z 0).val < 4 := (z 0).isLt
    unfold stepOf
    omega)) $$ H

/-- A whole buffer held through its memref is the buffer held. -/
theorem pts_whole (b : Ref sig .scVector) (q : PosShare TreeShare) (f : Buf (Elt F) ((tile d L).loc b)) :
    ((Memref.whole b).view.loc (tile d L) ↦[(Memref.whole b).view.set]{q} f : sProp 𝕄) = (tile d L).loc b ↦{q} f := by
  show ((tile d L).loc b ↦[(View.whole b).set]{q} f : sProp 𝕄) = _
  rw [View.set_whole]

/-- The same at contents not named. -/
theorem pts_whole_ex (b : Ref sig .scVector) :
    (iprop(∃ f, (Memref.whole b).view.loc (tile d L) ↦[(Memref.whole b).view.set]{fullShare} f) : sProp 𝕄)
      = iprop(∃ f, (tile d L).loc b ↦{fullShare} f) := by
  rw [Memref.view_whole, View.set_whole]

/-- The tile's task, from a read share of the flat array and its rows of the partial maxima. -/
theorem task_wp (fX : Buf (Elt F) (xLoc d)) (fY : Buf (Elt F) (yLoc d)) (q : PosShare TreeShare)
    (O : CellTallies nD τ sig (HIx 1)) (W : Waits sig (HIx 1)) (hO : ∀ g, O g none = 0) :
    iprop(levAts (K (F := F)).L (K (F := F)).lev ∗ (xLoc d ↦{q} fX) ∗ (yLoc d ↦[tileRows (wid L)]{fullShare} fY)
        ∗ scopedBufs (tile d L) ∗ scopedSems0 (tile d L) ∗ owes (tile d L) O W : sProp 𝕄)
      ⊢ wp frame (wpE (defs₀ (F := F)) 𝒱₀ (tile d L) none) Set.univ
          (cc0__seg_max_body L xV (Memref.isWhole_whole _) yV (Memref.isWhole_whole _) bA (Memref.isWhole_whole _) bB (Memref.isWhole_whole _)
            oV (Memref.isWhole_whole _) cc0_scratch3 cc0_scratch4 cc0_scoped0 cc0_scoped1)
          fun _ => iprop((yLoc d ↦[tileRows (wid L)]{fullShare} partials (F := F) fX) ∗ scopedBufs (tile d L) ∗ scopedSems0 (tile d L)
            ∗ ∃ W', ⌜∀ p ∈ W', p ∈ W ∨ p.2 = none⌝ ∗ owes (tile d L) O W') := by
  rw [(K (F := F)).scopedBufs_V facts d (cV L) (jV L), SparseCore.Cfg.scopedSems0_V (Val := Elt F) d (cV L) (jV L), ownSems0_V, ownBufs_V]
  iintro ⟨#Hlv, Hx, Hy, ⟨⟨%fA, HA⟩, HB, Ho, Hbufs⟩, ⟨HS0, HS1, HR0, HR1, Hsems⟩, HO⟩
  ihave HM := ((K (F := F)).mayWaits_none (thr := tile d L) hO) $$ Hlv
  ihave Hy := (outDone_zero d L fX fY) $$ Hy
  iapply (wp_wand frame (wpE (defs₀ (F := F)) 𝒱₀ (tile d L) none) (E := Set.univ)) $$ [Hx Hy HA HB Ho HS0 HS1 HR0 HR1 HO HM]
  · iapply (body_wp (F := F) (d := d) (L := L) (arg2 := xV) (arg3 := yV) (arg4 := bA) (arg5 := bB) (arg6 := oV) (arg7 := cc0_scratch3) (arg8 := cc0_scratch4)
      (v87_r0 := cc0_scoped0) (v87_r1 := cc0_scoped1) fX fA (q := q) O W) $$ [Hx Hy HA HB Ho HS0 HS1 HR0 HR1 HO HM]
    isplitl [Hx]; · iapply (Entails.of_eq (pts_whole d L main_v3_scv q fX).symm) $$ Hx
    isplitl [HA]; · iapply (Entails.of_eq (pts_whole d L cc0_scratch0 fullShare fA).symm) $$ HA
    isplitl [HS0]; · iexact HS0
    isplitl [HB]; · iapply (Entails.of_eq (pts_whole_ex d L cc0_scratch1).symm) $$ HB
    isplitl [HS1]; · iexact HS1
    isplitl [Ho]; · iapply (Entails.of_eq (pts_whole_ex d L cc0_scratch2).symm) $$ Ho
    isplitl [HR0]; · iexact HR0
    isplitl [HR1]; · iexact HR1
    isplitl [Hy]; · iexact Hy
    isplitl [HO]
    · unfold owing; iexists W; isplitr; · ipureintro; exact fun p hp => .inl hp
      iexact HO
    iexact HM
  iintro %u ⟨HA, HS0, HB, HS1, Ho, HR0, HR1, Hy, HO⟩
  isplitl [Hy]; · iapply (outDone_all d L fX) $$ Hy
  isplitl [HA HB Ho Hbufs]
  · isplitl [HA]; · iapply (Entails.of_eq (pts_whole_ex d L cc0_scratch0)) $$ HA
    isplitl [HB]; · iapply (Entails.of_eq (pts_whole_ex d L cc0_scratch1)) $$ HB
    isplitl [Ho]; · iapply (Entails.of_eq (pts_whole_ex d L cc0_scratch2)) $$ Ho
    iexact Hbufs
  isplitl [HS0 HS1 HR0 HR1 Hsems]
  · isplitl [HS0]; · iexact HS0
    isplitl [HS1]; · iexact HS1
    isplitl [HR0]; · iexact HR0
    isplitl [HR1]; · iexact HR1
    iexact Hsems
  iapply (Entails.of_eq (by rw [owing])) $$ HO

end Task

/-! ## The launch theorem's obligation -/

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__seg_max_body (coordsV c s) xV (Memref.isWhole_whole _) yV (Memref.isWhole_whole _)
          bA (Memref.isWhole_whole _) bB (Memref.isWhole_whole _) oV (Memref.isWhole_whole _) cc0_scratch3 cc0_scratch4 cc0_scoped0 cc0_scoped1) ⟨⟩ c s := rfl

/-- The waits a task makes are its own. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (fx : (d : Dev nD) → Buf (Elt F) (xLoc d)) (fy : (d : Dev nD) → Buf (Elt F) (yLoc d)) :
    (K (F := F)).TileObl (D (F := F)) 𝒱 (P fx fy) v₀ 0 := by
  intro d c i O W hO _ _
  simp only [show (P fx fy).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BI.Entails.trans ?_ ((task_wp d (coordsV ⟨_, hc.1⟩ ⟨_, hc.2⟩) (fx d) (fy d) (qT c i) O W hO).trans (wp_mono frame _ _ fun _ => obl_post))
  show iprop(_ ∗ emp ∗ (goRes fx fy d c i) ∗ _) ⊢ _
  iintro ⟨Hl, -, ⟨Hx, Hy⟩, Hb, Hs, HO⟩
  isplitl [Hl]; · iexact Hl
  isplitl [Hx]; · iexact Hx
  isplitl [Hy]; · iexact Hy
  isplitl [Hb]; · iexact Hb
  isplitl [Hs]; · iexact Hs
  iexact HO

end Cert.Proof.SegMax

end
-- ==== Proof.Region.lean ====
/-
  The TensorCore call: one grid point's run, what the accumulator holds after each point, and the whole call.
-/
module

public import proofs.«01_k».proof.Proof.Setup
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionArraysS
public import Idealize.ShloMosaic.Lib.Pipeline.FrameBody
public import Idealize.ShloMosaic.Lib.VecWindow

@[expose] public section

noncomputable section

namespace Cert.Proof.SegMax

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

/-! ## One grid point -/

/-- The accumulator after a block: what it held, plus the block's share of the loss. -/
def blockAcc (y p : Vec F S1024x64 .f32) (mx : Vec F S4x1024x16 .f32) (acc : F .f32) : F .f32 :=
  k1_pay1 (k1_pay4 y (k1_pay2 mx) (k1_pay3 y p mx)) (k1_pay5 (k1_pay2 mx)) (k1_pay6 y) (k1_pay7 (k1_pay2 mx)) (Scalar.ofBits .f32 0x00000000#32) acc

/-- The program's test of a grid coordinate holds at the first point alone. -/
theorem first_flag : ∀ x : Fin 16, Scalar.cmpi .ne (Scalar.extui (Scalar.cmpi .eq (BitVec.ofNat 32 x.val) 0#32) : BitVec 32) 0#32 = 1#1 ↔ x.val = 0 := by
  decide

/-- One grid point over its three blocks and the accumulator's word: at the first point the word is set to zero,
    then the block's share is added. -/
theorem point_wp (c : Dev nD) (i : grid1.Coords)
    (M1 : Memref sig .tc .vmem S4x1024x16 .f32) (h1 : M1.IsWhole) (M2 : Memref sig .tc .vmem S1024x64 .f32) (h2 : M2.IsWhole)
    (M3 : Memref sig .tc .vmem S1024x64 .f32) (h3 : M3.IsWhole) (M4 : Memref sig .tc .smem S1x1 .f32) (h4 : M4.IsWhole)
    (X1 : S4x1024x16.Idx → Elt F .f32) (X2 X3 : S1024x64.Idx → Elt F .f32) (a : F .f32) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare (fun _ => a)
        ∗ (iprop(owns (c : Thread nD τ) M1 fullShare X1 ∗ owns (c : Thread nD τ) M2 fullShare X2 ∗ owns (c : Thread nD τ) M3 fullShare X3
            ∗ owns (c : Thread nD τ) M4 fullShare (fun _ => blockAcc X3 X2 X1 (if (i 0).val = 0 then Scalar.ofBits .f32 0x00000000#32 else a))) -∗ Q ⟨⟩))
      ⊢ wp frame (wpE (defs₀ (F := F)) Variants.none (c : Thread nD τ) none) Set.univ (cc1__bce_body i M1 h1 M2 h2 M3 h3 M4 h4) Q := by
  rw [cc1__bce_body_eq_skeleton]
  unfold cc1__bce_body_skel
  rw [k1_part1_eq_skeleton, k1_part2_eq_skeleton]
  unfold k1_part1_skel k1_part2_skel
  unfold owns; rw [h1.set_eq_univ, h2.set_eq_univ, h3.set_eq_univ, h4.set_eq_univ]
  iintro ⟨⟨%f1, %e1, H1⟩, ⟨%f2, %e2, H2⟩, ⟨%f3, %e3, H3⟩, ⟨%f4, %e4, H4⟩, Hk⟩
  sl_exec!
  rw [wp_ret]; imodintro
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  iexists _; isplitr; swap; · iexact H4
  ipureintro
  unfold point_wp.sl.H4_1
  rw [View.read_writes_full, View.readAt_full, View.readAt_full, View.readAt_full, e1, e2, e3]
  unfold point_wp.sl.r_1 point_wp.sl.cst_26 point_wp.sl.f
  have hfl : (point_wp.sl.v107 i = 1#1) ↔ (i 0).val = 0 := first_flag (i 0)
  by_cases h0 : (i 0).val = 0
  · rw [dif_pos (hfl.mpr h0), if_pos h0, View.readAt_writes_full]
    rfl
  · rw [dif_neg (fun h => h0 (hfl.mp h)), if_neg h0, View.readAt_full, e4]
    rfl

/-! ## The call's proof data, at the arrays it finds -/

/-- What the call finds in window `w`'s array. -/
abbrev arrOf (W : Valuation τ sig (Elt F)) (w : Fin cfg1.W) := W (Proc.devRef .tc (Pipeline.arrRef spec1 w))

/-- The blocks of point `t`: the partial maxima, the video scores, the labels. -/
def mxBlk (W : Valuation τ sig (Elt F)) (t : Fin cfg1.N) : S4x1024x16.Idx → Elt F .f32 := ((cfg1.win 0).blk t).view.read (Elt F) (arrOf W 0)
def pBlk (W : Valuation τ sig (Elt F)) (t : Fin cfg1.N) : S1024x64.Idx → Elt F .f32 := ((cfg1.win 1).blk t).view.read (Elt F) (arrOf W 1)
def yBlk (W : Valuation τ sig (Elt F)) (t : Fin cfg1.N) : S1024x64.Idx → Elt F .f32 := ((cfg1.win 2).blk t).view.read (Elt F) (arrOf W 2)

/-- The accumulator after the first `n` points. -/
def accAt (W : Valuation τ sig (Elt F)) : ℕ → F .f32
  | 0 => Scalar.ofBits .f32 0x00000000#32
  | n + 1 => if h : n < cfg1.N then blockAcc (yBlk W ⟨n, h⟩) (pBlk W ⟨n, h⟩) (mxBlk W ⟨n, h⟩) (accAt W n) else accAt W n

theorem accAt_succ (W : Valuation τ sig (Elt F)) (t : Fin cfg1.N) :
    accAt W (t.val + 1) = blockAcc (yBlk W t) (pBlk W t) (mxBlk W t) (accAt W t.val) := by
  rw [accAt, dif_pos t.isLt]

/-- The call's proof data from the valuation `W`: the three inputs' blocks left as found, the accumulator's word at
    the running total. -/
def dat (W : Dev nD → Valuation τ sig (Elt F)) (c : Dev nD) : Dat τ (Elt F) (HIx 1) ℕ UU ℕ cfg1 c where
  A w := arrOf (W c) w
  after w t := match w with
    | ⟨0, _⟩ => mxBlk (W c) t
    | ⟨1, _⟩ => pBlk (W c) t
    | ⟨2, _⟩ => yBlk (W c) t
    | ⟨3, _⟩ => fun _ => accAt (W c) (t.val + 1)
    | ⟨_ + 4, h⟩ => absurd h (Nat.not_lt.2 (Nat.le_add_left _ _))
  Φ _ := Pipeline.scopedRest (Ix := HIx 1) (Name := ℕ) (U := UU) (Lvl := ℕ) (Val := Elt F) spec1 c
  q _ := fullShare
  owed _ := 0

variable (W : Dev nD → Valuation τ sig (Elt F)) (c : Dev nD)

theorem before_0 (t : Fin cfg1.N) (d) : (dat W c).before 0 t d = mxBlk (W c) t := by
  unfold Dat.before; rw [if_pos (fetch1_0 t)]; rfl
theorem before_1 (t : Fin cfg1.N) (d) : (dat W c).before 1 t d = pBlk (W c) t := by
  unfold Dat.before; rw [if_pos (fetch1_1 t)]; rfl
theorem before_2 (t : Fin cfg1.N) (d) : (dat W c).before 2 t d = yBlk (W c) t := by
  unfold Dat.before; rw [if_pos (fetch1_2 t)]; rfl
/-- After the first point the accumulator's word holds what the point before left. -/
theorem before_3 (t : Fin cfg1.N) (ht : t.val ≠ 0) (d) : (dat W c).before 3 t d = fun _ => accAt (W c) t.val := by
  rw [(dat W c).before_out_kept 3 rfl t ht (by
    rw [← Bool.not_eq_true, flush1_3]
    have : t.val < 16 := t.isLt
    show ¬ (t.val - 1) % 16 = 15
    omega) (fun _ => rfl) (fun _ _ => rfl)]
  show (fun _ => accAt (W c) (t.val - 1 + 1)) = _
  rw [Nat.sub_add_cancel (Nat.one_le_iff_ne_zero.mpr ht)]

theorem coords_val : ∀ t : Fin cfg1.N, (grid1.coords t 0).val = t.val := by
  have h : ∀ t : Fin 16, (grid1.coords t 0).val = t.val := by decide
  exact h

/-- Every point's run, from its blocks and the accumulator as the pipeline hands them. -/
theorem body_obligation : BodyObligation (dat W c) (defs₀ (F := F)) 𝒱₀ none Set.univ := fun t => by
  rw [bigSep_W1, bigSep_W1]
  iintro ⟨HΦ, HO, ⟨%d0, H0⟩, ⟨%d1, H1⟩, ⟨%d2, H2⟩, ⟨%d3, H3⟩⟩
  rw [before_0, before_1, before_2]
  obtain ⟨a, hd, ha⟩ : ∃ a : F .f32, (dat W c).before 3 t d3 = (fun _ => a)
      ∧ (if (grid1.coords t 0).val = 0 then Scalar.ofBits .f32 0x00000000#32 else a) = accAt (W c) t.val := by
    by_cases h0 : t.val = 0
    · refine ⟨(dat W c).before 3 t d3 (Shape.Idx.first (s := S1x1) (by decide)), ?_, ?_⟩
      · funext x
        exact congrArg ((dat W c).before 3 t d3) (funext fun a => Fin.ext (by
          have h : ∀ a : Fin 2, ∀ y z : Fin (S1x1.size a), y.val = z.val := by decide
          exact h a (x a) _))
      · rw [if_pos ((coords_val t).trans h0), h0, accAt]
    · exact ⟨accAt (W c) t.val, before_3 W c t h0 d3, by rw [if_neg (fun h => h0 ((coords_val t).symm.trans h))]⟩
  rw [hd]
  iapply (point_wp (F := F) c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (mxBlk (W c) t) (pBlk (W c) t) (yBlk (W c) t) a)
  isplitl [H0]; · iexact H0
  isplitl [H1]; · iexact H1
  isplitl [H2]; · iexact H2
  isplitl [H3]; · iexact H3
  rw [ha, ← accAt_succ, show (dat W c).Φ t.succ = (dat W c).Φ t.castSucc from rfl,
    show (dat W c).owesAt none t.succ = (dat W c).owesAt none t.castSucc from rfl]
  iintro ⟨H0, H1, H2, H3⟩
  isplitl [HΦ]; · iexact HΦ
  isplitl [HO]; · iexact HO
  isplitl [H0]; · iexact H0
  isplitl [H1]; · iexact H1
  isplitl [H2]; · iexact H2
  iexact H3

/-! ## The call as a segment of the program -/

/-- The proof data of every TensorCore call: there is one. -/
def pdats (W : Dev nD → Valuation τ sig (Elt F)) : (p : Fin 1) → (c : Dev nD) → Dat τ (Elt F) (HIx 1) ℕ UU ℕ (Pipeline.pin (pcfgs (F := F)) (fun p => (cfgs p).toPCfg_adm) p) c
  | ⟨0, _⟩ => fun c => dat W c
  | ⟨n + 1, h⟩ => absurd h (Nat.not_lt.2 (Nat.le_add_left _ _))

/-- The TensorCore's buffers that are in no region's scope: what the program's host operations work on. -/
abbrev ucs : Finset (DevRef τ sig) := Pipeline.ucRefs τ sig

theorem levelCut (W : Dev nD → Valuation τ sig (Elt F)) :
    Pipeline.LevelCut (pcfgs (F := F)) (fun p => (cfgs p).toPCfg_adm) none ((K (F := F)).L (N := 1)) ((K (F := F)).lev (N := 1)) 0 (fun _ : Dev nD => 0) (fun _ => 0) where
  hι _ _ _ := Finset.mem_univ _
  hιb _ _ _ := le_refl _
  hD _ _ _ h := absurd h (lt_irrefl _)

theorem seg_hbody (W : Dev nD → Valuation τ sig (Elt F)) (c : Dev nD) : Pipeline.BodyObligationLoose (pdats W 0 c) (defs₀ (F := F)) 𝒱₀ none Set.univ := (body_obligation W c).loose

theorem seg_owed (W : Dev nD → Valuation τ sig (Elt F)) (c : Dev nD) (t) : (pdats W 0 c).owed t = 0 := rfl
theorem seg_rec (W : Dev nD → Valuation τ sig (Elt F)) (c : Dev nD) : (pdats W 0 c).recorded 0 = Set.univ := rfl
theorem seg_share (W : Dev nD → Valuation τ sig (Elt F)) (c : Dev nD) (w) : (pdats W 0 c).share w = fullShare := (dat W c).share_full (fun _ => rfl) w

theorem kit : Pipeline.PLaunchFacts (nD := nD) (τ := τ) (pcfgs (F := F)) 0 := launch1.toP

theorem seg_spec : (Pipeline.pin (pcfgs (F := F)) (fun p => (cfgs p).toPCfg_adm) 0).spec = spec1 := rfl

theorem seg_in (W : Dev nD → Valuation τ sig (Elt F)) (c : Dev nD) :
    iprop(Pipeline.scopedRest (Pipeline.pin (pcfgs (F := F)) (fun p => (cfgs p).toPCfg_adm) 0).spec c ∗ BI.emp) ⊢ (pdats W 0 c).Φ 0 := by
  show iprop(Pipeline.scopedRest spec1 c ∗ BI.emp) ⊢ Pipeline.scopedRest spec1 c
  iintro ⟨H, -⟩
  iexact H

theorem seg_out (W : Dev nD → Valuation τ sig (Elt F)) (c : Dev nD) :
    (pdats W 0 c).Φ (Fin.last _) ⊢ iprop(Pipeline.scopedRest (Pipeline.pin (pcfgs (F := F)) (fun p => (cfgs p).toPCfg_adm) 0).spec c ∗ BI.emp) := by
  show Pipeline.scopedRest spec1 c ⊢ iprop(Pipeline.scopedRest spec1 c ∗ BI.emp)
  iintro H
  isplitl [H]
  · iexact H
  · iempintro

theorem seg_W (W : Dev nD → Valuation τ sig (Elt F)) (c : Dev nD) (w) :
    (pdats W 0 c).arrAt w 0 = W c (Proc.devRef .tc (Pipeline.arrRef (Pipeline.pin (pcfgs (F := F)) (fun p => (cfgs p).toPCfg_adm) 0).spec w)) := rfl

/-- The buffers the call is entered with: every unscoped one but the permuted scores, of which the SparseCores keep shares. -/
abbrev heldSet : Finset (DevRef τ sig) := ucs.erase (Proc.devRef .tc main_v3)

/-- The call, entered with those buffers held at `W c`. -/
def seg (W : Dev nD → Valuation τ sig (Elt F)) : Pipeline.RegionSeg (pcfgs (F := F)) (fun p => (cfgs p).toPCfg_adm) (pdats W) none defs₀ 𝒱₀ (K (F := F)).L (K (F := F)).lev 0 :=
  Pipeline.RegionSeg.ofHeldIn (pcfgs (F := F)) (fun p => (cfgs p).toPCfg_adm) (pdats W) none defs₀ 𝒱₀ (K (F := F)).L (K (F := F)).lev 0 (fun _ => 0) heldSet
    (fun _ => BI.emp) (fun _ => BI.emp) kit rfl (seg_hbody W) (seg_owed W) (seg_rec W) (seg_share W)
    (seg_in W) (seg_out W) (fun _ => 0) (levelCut W) (fun _ => BI.emp) W (seg_W W)

end Cert.Proof.SegMax

end
-- ==== Proof.Run.lean ====
/-
  The program's run: the host's four operations before the SparseCore call, the call, the dense call and the reshape
  after it, on the TensorCore; the launch's ghost state; what memory holds at the end.
-/
module

public import proofs.«01_k».proof.Proof.Dispatch
public import proofs.«01_k».proof.Proof.Region

@[expose] public section

noncomputable section

namespace Cert.Proof.SegMax

open Cert.KernelIdeal Cert.KernelIdeal.Gen

open Idealize.ShloMosaic Idealize.ShloMosaic.TcCoe
open Idealize.ShloMosaic.SparseCore (S V)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)

variable {F : FTy → Type} [FloatOps F]

local notation "𝕄" => MT nD τ sig (HIx 1) (Elt F) ℕ UU ℕ

/-! ## The host's operations -/

/-- The five operations of the host. -/
abbrev op1 : HloOp τ sig (Elt F) := StableHlo.unary main_arg0 main_v0 ((transpose S64x819200 [1, 0] · transposes_S819200x64_S64x819200_1_0) : (⟨S819200x64, .f32⟩ : BufTy).Contents (Elt F) → (⟨S64x819200, .f32⟩ : BufTy).Contents (Elt F))
abbrev op2 : HloOp τ sig (Elt F) := StableHlo.reshape main_v0 main_v1 (rfl : (.f32 : EltTy) = .f32) shapeCasts_S64x819200_S8x8x6400x128
abbrev op3 : HloOp τ sig (Elt F) := StableHlo.unary main_v1 main_v2 ((transpose S8x6400x8x128 [0, 2, 1, 3] · transposes_S8x8x6400x128_S8x6400x8x128_0_2_1_3) : (⟨S8x8x6400x128, .f32⟩ : BufTy).Contents (Elt F) → (⟨S8x6400x8x128, .f32⟩ : BufTy).Contents (Elt F))
abbrev op4 : HloOp τ sig (Elt F) := StableHlo.reshape main_v2 main_v3 (rfl : (.f32 : EltTy) = .f32) shapeCasts_S8x6400x8x128_S52428800
abbrev op5 : HloOp τ sig (Elt F) := StableHlo.reshape main_v5 main_v6 (rfl : (.f32 : EltTy) = .f32) shapeCasts_S1x1_S_

variable (m : (ℓ : Loc nD τ sig) → Buf (Elt F) ℓ) (ρ : Dev nD → PrngReg)

/-- The memory of device `d` at the start, -/
def V0 (d : Dev nD) : Valuation τ sig (Elt F) := fun b => m (d, b)
/-- after the four operations before the SparseCore call, -/
def V4 (d : Dev nD) : Valuation τ sig (Elt F) := op4.result (op3.result (op2.result (op1.result (V0 m d))))
/-- the permuted scores that call reads, the partial maxima as it finds them, -/
def scores (d : Dev nD) : Buf (Elt F) (xLoc d) := V4 m d (Proc.devRef .tc main_v3)
def before (d : Dev nD) : Buf (Elt F) (yLoc d) := V4 m d (Proc.devRef .tc main_v4)
/-- after the call, -/
def V5 (d : Dev nD) : Valuation τ sig (Elt F) := Function.update (V4 m d) (Proc.devRef .tc main_v4) (outOf (scores m) d)
/-- after the dense call, -/
def V6 (d : Dev nD) : Valuation τ sig (Elt F) := Pipeline.afterRegion (pdats (V5 m) 0 d) (V5 m d)
/-- and at the end. -/
def V7 (d : Dev nD) : Valuation τ sig (Elt F) := op5.result (V6 m d)

/-- A host operation on the TensorCore, from a set of buffers holding its own, to the same set at its result. -/
theorem host_step (d : Dev nD) {S : Finset (DevRef τ sig)} {W : Valuation τ sig (Elt F)} {op : HloOp τ sig (Elt F)} (hS : op.bufs ⊆ S)
    (hf : op.fresh = ∅) {hp} {Q : PUnit → sProp 𝕄} :
    iprop((boundary (SparseCore.T d) ∗ StableHlo.held (SparseCore.T d) S W) ∗ ((boundary (SparseCore.T d) ∗ StableHlo.held (SparseCore.T d) S (op.result W)) -∗ Q ⟨⟩))
      ⊢ wp frame (wpE ((K (F := F)).defs (D (F := F))) 𝒱 (SparseCore.T d) none) Set.univ (hlo hp op fun _ => .ret ⟨⟩) Q := by
  iintro ⟨H, Hk⟩
  iapply (StableHlo.wp_hlo_within 𝒱 (SparseCore.T d) none Set.univ (op := op) (S := S) hS (V := W) (hf := hf)) $$ H
  iintro H
  rw [wp_ret]
  imodintro
  iapply Hk
  iexact H

/-! ## The dense call -/

theorem arrays_held : Pipeline.arrRefs (τ := τ) (sig := sig) ((pcfgs (F := F)) 0).spec ⊆ heldSet := by
  have h : Pipeline.arrRefs (τ := τ) (sig := sig) spec1 ⊆ heldSet := by decide
  exact h

/-- The ghost state of the dense call's pipeline on device `d`. -/
abbrev pipeGhost (d : Dev nD) : sProp 𝕄 :=
  iprop(Pipeline.cellsGhost (Pipeline.pin (pcfgs (F := F)) fun p => (cfgs p).toPCfg_adm) EP 0 d
    ∗ Pipeline.toksInit (Pipeline.pin (pcfgs (F := F)) fun p => (cfgs p).toPCfg_adm) EP 0 d)

/-- The call of the dense kernel, in the pipeline's own signature. -/
def enter (d : Dev nD) : Prog (TpuEff nD τ sig (Elt F) (ΛP (F := F)) (SparseCore.T d : Thread nD τ).2) PUnit := .op (.customCall (Pipeline.entry 0) ()) fun _ => .ret ⟨⟩

theorem seg_pre (W : Dev nD → Valuation τ sig (Elt F)) (d : Dev nD) :
    iprop(StableHlo.held (SparseCore.T d) heldSet (W d) ∗ ∃ Wd, owes (SparseCore.T d) 0 Wd) ⊢ (seg W).pre d := by
  have h := Pipeline.RegionSeg.ofHeldIn_pre (S := heldSet) arrays_held (X := fun _ => BI.emp) (Y := fun _ => BI.emp) (R := fun _ => BI.emp)
    (kit := kit) (hK := rfl) (hbody := seg_hbody W) (howed := seg_owed W) (hrec := seg_rec W) (hshare := seg_share W) (hin := seg_in W) (hout := seg_out W) (hcut := levelCut W) (hW := seg_W W) d
  unfold seg
  iintro ⟨Hh, HO⟩
  iapply h
  isplitl [Hh]; · iexact Hh
  isplitl [HO]; · iexact HO
  isplitl []
  · iempintro
  · iempintro

theorem seg_post (W : Dev nD → Valuation τ sig (Elt F)) (d : Dev nD) :
    (seg W).post d ⊢ iprop(StableHlo.held (SparseCore.T d) heldSet (Pipeline.afterRegion (pdats W 0 d) (W d)) ∗ ∃ Wd, owes (SparseCore.T d) 0 Wd) := by
  refine (Pipeline.RegionSeg.ofHeldIn_post arrays_held d).trans ?_
  iintro ⟨Hh, HO, -⟩
  isplitl [Hh]; · iexact Hh
  iexact HO

theorem seg_wp [∀ e, Nonempty (Elt F e)] (W : Dev nD → Valuation τ sig (Elt F)) (d : Dev nD) {Q : PUnit → sProp 𝕄} :
    iprop((iprop(boundary (SparseCore.T d) ∗ (seg W).post d) -∗ wp frame (wpE (D (F := F)) 𝒱 (SparseCore.T d) none) Set.univ (.ret ⟨⟩) Q)
        ∗ boundary (SparseCore.T d) ∗ (seg W).pre d ∗ levAts (K (F := F)).L (K (F := F)).lev ∗ pipeGhost d)
      ⊢ wp frame (wpE (D (F := F)) 𝒱 (SparseCore.T d) none) Set.univ (enter d) Q := by
  unfold enter
  exact Pipeline.RegionSeg.wp (pcfgs (F := F)) (fun p => (cfgs p).toPCfg_adm) (pdats W) none cellOf_inj EP defs₀ 𝒱₀ (K (F := F)).L (K (F := F)).lev (seg W) d none
    (fun _ h => nomatch h) (fun _ => .ret ⟨⟩) Q

theorem enter_run [∀ e, Nonempty (Elt F e)] (W : Dev nD → Valuation τ sig (Elt F)) (d : Dev nD) {Q : PUnit → sProp 𝕄} :
    iprop(levAts (K (F := F)).L (K (F := F)).lev
        ∗ boundary (SparseCore.T d) ∗ StableHlo.held (SparseCore.T d) heldSet (W d) ∗ (∃ Wd, owes (SparseCore.T d) 0 Wd) ∗ pipeGhost d
        ∗ ((boundary (SparseCore.T d) ∗ StableHlo.held (SparseCore.T d) heldSet (Pipeline.afterRegion (pdats W 0 d) (W d)) ∗ (∃ Wd, owes (SparseCore.T d) 0 Wd)) -∗ Q ⟨⟩))
      ⊢ wp frame (wpE (D (F := F)) 𝒱 (SparseCore.T d) none) Set.univ
          (enter d) Q := by
  iintro ⟨Hlev, Hb, Hh, HO, HG, Hk⟩
  iapply (seg_wp W d)
  isplitl [Hk]
  · iintro ⟨Hb, Hp⟩
    rw [wp_ret]
    imodintro
    ihave H := (seg_post W d) $$ Hp
    icases H with ⟨Hh, HO⟩
    iapply Hk
    isplitl [Hb]; · iexact Hb
    isplitl [Hh]; · iexact Hh
    iexact HO
  isplitl [Hb]; · iexact Hb
  isplitl [Hh HO]
  · iapply (seg_pre W d)
    isplitl [Hh]; · iexact Hh
    iexact HO
  isplitl [Hlev]; · iexact Hlev
  iexact HG

theorem region_run [∀ e, Nonempty (Elt F e)] (W : Dev nD → Valuation τ sig (Elt F)) (d : Dev nD) {Q : PUnit → sProp 𝕄} :
    iprop(levAts (K (F := F)).L (K (F := F)).lev
        ∗ boundary (SparseCore.T d) ∗ StableHlo.held (SparseCore.T d) heldSet (W d) ∗ (∃ Wd, owes (SparseCore.T d) 0 Wd) ∗ pipeGhost d
        ∗ ((boundary (SparseCore.T d) ∗ StableHlo.held (SparseCore.T d) heldSet (Pipeline.afterRegion (pdats W 0 d) (W d)) ∗ (∃ Wd, owes (SparseCore.T d) 0 Wd)) -∗ Q ⟨⟩))
      ⊢ wp frame (wpE ((K (F := F)).defs (D (F := F))) 𝒱 (SparseCore.T d) none) Set.univ
          (Prog.lift (.customCall (SparseCore.inner (Pipeline.entry 0)) ())) Q :=
  (enter_run W d).trans ((K (F := F)).wp_liftProg (D (F := F)) 𝒱 (SparseCore.T d) Set.univ none (enter d) Q)

/-! ## The launch's ghost state -/

/-- The launch's ghost state: the handshakes' rounds, the pipeline's, no counter yet. -/
def u₀ : UU := (initOf (K (F := F)).hsCells (K (F := F)).hsToks,
  (initOf (Pipeline.cells (nD := nD) (τ := τ) (Pipeline.pin (pcfgs (F := F)) fun p => (cfgs p).toPCfg_adm) cellOf_inj)
    (Pipeline.launchToks (nD := nD) (τ := τ) (Pipeline.pin (pcfgs (F := F)) fun p => (cfgs p).toPCfg_adm) cellOf_inj), 1))

theorem ownU_parts (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

theorem one_pipe (G : Fin 1 → Dev nD → sProp 𝕄) : (bigSep Finset.univ fun d : Dev nD => bigSep Finset.univ fun p : Fin 1 => G p d) = bigSep Finset.univ fun d => G 0 d :=
  bigSep_congr fun _ _ => bigSep_univ_of_subsingleton (0 : Fin 1)

theorem bigSep_none {I : Type} (s : Finset I) : (bigSep s fun _ => iprop(emp)) = (iprop(emp) : sProp 𝕄) := bigSep_emp_const s

theorem hu₀ (fx : (d : Dev nD) → Buf (Elt F) (xLoc d)) (fy : (d : Dev nD) → Buf (Elt F) (yLoc d)) : (ownU (u₀ (F := F)) : sProp 𝕄)
    ⊢ |={Set.univ}=> iprop(BI.own (EH (initOf (K (F := F)).hsCells (K (F := F)).hsToks)) ∗ (bigSep Finset.univ fun d : Dev nD => pipeGhost d)
        ∗ bigSep Finset.univ fun thr : Thread nD τ => bigSep Finset.univ fun q : Fin 1 => (P fx fy).x q thr) := by
  unfold u₀
  iintro Hu
  ihave H := (ownU_parts _ _) $$ Hu
  icases H with ⟨HH, HP⟩
  imod (Pipeline.fund_ghost (nD := nD) (τ := τ) (Pipeline.pin (pcfgs (F := F)) fun p => (cfgs p).toPCfg_adm) EP cellOf_inj) $$ HP with ⟨Hg, Ht⟩
  imodintro
  isplitl [HH]; · iexact HH
  isplitl [Hg Ht]
  · rw [bigSep_sep']
    isplitl [Hg]
    · ihave H := (Entails.of_eq (one_pipe fun p d => Pipeline.cellsGhost (Pipeline.pin (pcfgs (F := F)) fun p => (cfgs p).toPCfg_adm) EP p d)) $$ Hg
      iexact H
    · ihave H := (Entails.of_eq (one_pipe fun p d => Pipeline.toksInit (Pipeline.pin (pcfgs (F := F)) fun p => (cfgs p).toPCfg_adm) EP p d)) $$ Ht
      iexact H
  rw [show (bigSep Finset.univ fun thr : Thread nD τ => bigSep Finset.univ fun q : Fin 1 => (P fx fy).x q thr)
      = (bigSep Finset.univ fun _ : Thread nD τ => (iprop(emp) : sProp 𝕄)) from bigSep_congr fun thr _ => bigSep_univ_of_subsingleton (0 : Fin 1),
    bigSep_none]
  iempintro

/-! ## What the SparseCore call takes out of memory and puts back -/

abbrev restSet : Finset (DevRef τ sig) := heldSet.erase (Proc.devRef .tc main_v4)

theorem held_open (d : Dev nD) : (StableHlo.held (SparseCore.T d) ucs (V4 m d) : sProp 𝕄)
    = iprop((xLoc d ↦{fullShare} scores m d) ∗ (yLoc d ↦{fullShare} before m d) ∗ StableHlo.held (SparseCore.T d) restSet (V4 m d)) := by
  unfold StableHlo.held restSet heldSet
  rw [bigSep_erase (i := Proc.devRef .tc main_v3) (by decide), bigSep_erase (s := ucs.erase _) (i := Proc.devRef .tc main_v4) (by decide)]
  rfl

theorem held_close (d : Dev nD) : (StableHlo.held (SparseCore.T d) heldSet (V5 m d) : sProp 𝕄)
    = iprop((yLoc d ↦{fullShare} outOf (scores m) d) ∗ StableHlo.held (SparseCore.T d) restSet (V4 m d)) := by
  rw [← StableHlo.held_congr (SparseCore.T d) (S := restSet) (V := V5 m d) (V' := V4 m d) fun b hb =>
    Function.update_of_ne (Finset.ne_of_mem_erase hb) _ _]
  unfold StableHlo.held restSet
  rw [bigSep_erase (s := heldSet) (i := Proc.devRef .tc main_v4) (by decide)]
  congr 2

theorem st_intro (fx : (d : Dev nD) → Buf (Elt F) (xLoc d)) (fy : (d : Dev nD) → Buf (Elt F) (yLoc d)) (d : Dev nD) :
    iprop((xLoc d ↦{fullShare} fx d) ∗ (yLoc d ↦{fullShare} fy d)) ⊢ (bigSep Finset.univ fun c : Fin ((K (F := F)).nCore 0) => (P fx fy).st 0 d c : sProp 𝕄) := by
  show _ ⊢ (bigSep Finset.univ fun c : Fin 2 => stRes fx fy d c : sProp 𝕄)
  unfold stRes qC
  rw [bigSep_sep', ← y_cores, ← Transfers.pointsTo_deal (Finset.univ : Finset (Fin 2)) Finset.univ_nonempty fullShare]

theorem dn_elim (fx : (d : Dev nD) → Buf (Elt F) (xLoc d)) (fy : (d : Dev nD) → Buf (Elt F) (yLoc d)) (d : Dev nD) :
    (bigSep Finset.univ fun c : Fin ((K (F := F)).nCore 0) => (P fx fy).dn 0 d c : sProp 𝕄) ⊢ (yLoc d ↦{fullShare} outOf fx d) := by
  show (bigSep Finset.univ fun c : Fin 2 => dnRes fx d c : sProp 𝕄) ⊢ _
  unfold dnRes
  rw [← y_cores]

/-- After its one call the TensorCore's waits are bounded whatever they are. -/
theorem below_one (d : Dev nD) (W : Waits sig (HIx 1)) : (K (F := F)).WBelow (SparseCore.T d) W (8 * SparseCore.Cfg.Blocks.fst 1 1 1) := by
  intro p _
  have h1 : 0 < SparseCore.Cfg.Blocks.fst 1 1 1 := lt_of_le_of_lt (Nat.zero_le _) (SparseCore.Cfg.Blocks.last_lt_fst (N := 1) (0 : Fin 1))
  rcases p with ⟨g, _ | q⟩
  · exact Nat.zero_le _
  · have h2 := (K (F := F)).lev_some_le (SparseCore.T d, g) q
    have := q.isLt
    exact h2.trans (by omega)

/-- The TensorCore's state after the SparseCore call, opened at what it owes: nothing. -/
theorem tcSt_one (d : Dev nD) : (K (F := F)).tcSt EH d 1
    ⊢ (iprop((∃ Wd, owes (SparseCore.T d) 0 Wd) ∗ ((∃ Wd, owes (SparseCore.T d) 0 Wd) -∗ (K (F := F)).tcSt EH d 1)) : sProp 𝕄) := by
  unfold SparseCore.Cfg.tcSt
  rw [(K (F := F)).Otc_end d (le_refl 1)]
  iintro ⟨⟨%W, %hW, HO⟩, HR⟩
  isplitl [HO]
  · iexists W; iexact HO
  iintro ⟨%W', HO⟩
  isplitl [HO]
  · iexists W'
    isplitr
    · ipureintro; exact below_one (F := F) d W'
    iexact HO
  iexact HR

/-! ## The TensorCore's program -/

theorem op1_sub : (op1 (F := F)).bufs ⊆ ucs := by
  have h : ({Proc.devRef .tc main_arg0, Proc.devRef .tc main_v0} : Finset (DevRef τ sig)) ⊆ ucs := by decide
  exact h
theorem op2_sub : (op2 (F := F)).bufs ⊆ ucs := by
  have h : ({Proc.devRef .tc main_v0, Proc.devRef .tc main_v1} : Finset (DevRef τ sig)) ⊆ ucs := by decide
  exact h
theorem op3_sub : (op3 (F := F)).bufs ⊆ ucs := by
  have h : ({Proc.devRef .tc main_v1, Proc.devRef .tc main_v2} : Finset (DevRef τ sig)) ⊆ ucs := by decide
  exact h
theorem op4_sub : (op4 (F := F)).bufs ⊆ ucs := by
  have h : ({Proc.devRef .tc main_v2, Proc.devRef .tc main_v3} : Finset (DevRef τ sig)) ⊆ ucs := by decide
  exact h
theorem op5_sub : (op5 (F := F)).bufs ⊆ heldSet := by
  have h : ({Proc.devRef .tc main_v5, Proc.devRef .tc main_v6} : Finset (DevRef τ sig)) ⊆ heldSet := by decide
  exact h

theorem hmain [∀ e, Nonempty (Elt F e)] (κ : GSem nD τ sig → ℕ) (d : Dev nD) :
    iprop((K (F := F)).ctx EH (P (scores m) (before m)) κ ∗ (K (F := F)).tcSt EH d 0 ∗ (K (F := F)).tcRes m ρ d ∗ pipeGhost d)
      ⊢ wp frame (wpE ((K (F := F)).defs (D (F := F))) 𝒱 (SparseCore.T d) none) Set.univ (main d)
          fun _ => iprop((K (F := F)).tcSt EH d 1 ∗ StableHlo.held (SparseCore.T d) heldSet (V7 m d) ∗ (K (F := F)).tcEnd d) := by
  unfold SparseCore.Cfg.tcRes SparseCore.Cfg.tcEnd
  rw [show (fun b : Ref sig .tc => m ((SparseCore.T d).loc b)) = (fun b => V0 m d (Proc.devRef .tc b)) from rfl, Pipeline.unscopedBufs_held d (V0 m d)]
  simp only [main, wp_bind, wp_pure]
  iintro ⟨#Hctx, Hst, ⟨Hb, Hu, Hts, -⟩, HG⟩
  iapply (host_step d (S := ucs) (W := V0 m d) (op := op1) op1_sub (by rfl))
  isplitl [Hb Hu]
  · isplitl [Hb] <;> iassumption
  iintro H
  iapply (host_step d (S := ucs) (op := op2) op2_sub (by rfl))
  isplitl [H]; · iexact H
  iintro H
  iapply (host_step d (S := ucs) (op := op3) op3_sub (by rfl))
  isplitl [H]; · iexact H
  iintro H
  iapply (host_step d (S := ucs) (op := op4) op4_sub (by rfl))
  isplitl [H]; · iexact H
  iintro ⟨Hb, Hu⟩
  ihave Hu := (Entails.of_eq (show (StableHlo.held (SparseCore.T d) ucs (op4.result (op3.result (op2.result (op1.result (V0 m d))))) : sProp 𝕄) = _ from held_open m d)) $$ Hu
  icases Hu with ⟨Hx, Hy, Hr⟩
  iapply ((K (F := F)).wp_run (D (F := F)) 𝒱 (EH := EH) (P := P (scores m) (before m)) κ d 0)
  isplitr; · iexact Hctx
  isplitl [Hst]; · iexact Hst
  isplitl [Hx Hy]
  · iapply (st_intro (scores m) (before m) d)
    isplitl [Hx] <;> iassumption
  iintro ⟨Hst, Hdn⟩
  ihave Hy := (dn_elim (scores m) (before m) d) $$ Hdn
  ihave Hst := (show (K (F := F)).tcSt EH d ((0 : Fin 1).val + 1) ⊢ _ from tcSt_one d) $$ Hst
  icases Hst with ⟨HO, HR⟩
  ihave Hlev := ((K (F := F)).ctx_levAts κ) $$ Hctx
  iapply (region_run (V5 m) d)
  isplitl [Hlev]; · iexact Hlev
  isplitl [Hb]; · iexact Hb
  isplitl [Hy Hr]
  · iapply (Entails.of_eq (held_close m d).symm)
    isplitl [Hy] <;> iassumption
  isplitl [HO]; · iexact HO
  isplitl [HG]; · iexact HG
  iintro ⟨Hb, Hu, HO⟩
  iapply (host_step d (S := heldSet) (W := V6 m d) (op := op5) op5_sub (by rfl))
  isplitl [Hb Hu]
  · isplitl [Hb]; · iexact Hb
    iexact Hu
  iintro ⟨Hb, Hu⟩
  imodintro
  isplitl [HO HR]
  · iapply HR
    iexact HO
  isplitl [Hu]; · iexact Hu
  isplitl [Hb] <;> iassumption

/-! ## The run -/

/-- Every buffer held at the end reads as the last valuation says. -/
def fq (d : Dev nD) (s : Phys nD τ sig (Elt F)) : Prop := ∀ b ∈ heldSet, s.mem.mem (d, b) = V7 m d b

theorem hfin (d : Dev nD) (s : Phys nD τ sig (Elt F)) : iprop(StableHlo.held (SparseCore.T d) heldSet (V7 m d) ∗ SI s) ⊢ (⌜fq m d s⌝ : sProp 𝕄) := by
  have one : ∀ b ∈ heldSet, iprop(StableHlo.held (SparseCore.T d) heldSet (V7 m d) ∗ SI s) ⊢ (⌜s.mem.mem (d, b) = V7 m d b⌝ : sProp 𝕄) := fun b hb => by
    have e : (StableHlo.held (SparseCore.T d) heldSet (V7 m d) : sProp 𝕄)
        = iprop(((d, b) ↦{fullShare} V7 m d b) ∗ StableHlo.held (SparseCore.T d) (heldSet.erase b) (V7 m d)) := by
      unfold StableHlo.held
      exact bigSep_erase hb
    rw [e]
    iintro ⟨⟨Hb, -⟩, HSI⟩
    ihave H := (SI_pointsTo_agree (st := s) (ℓ := (d, b)) (I := Finset.univ) (q := fullShare) (f := V7 m d b)) $$ [HSI Hb]
    · isplitl [HSI] <;> iassumption
    icases H with %h
    ipureintro
    exact funext fun i => h i (Finset.mem_univ i)
  exact ((Laws.forall_intro fun b : {b // b ∈ heldSet} => one b.1 b.2).trans Laws.pure_forall.2).trans (Laws.pure_mono fun h b hb => h ⟨b, hb⟩)

/-- The whole program's run: at its end every unscoped buffer but the permuted scores reads as `V7` says, and no
    semaphore is up. -/
theorem run_main [∀ e, Nonempty (Elt F e)] :
    θ_run (Cert.KernelIdeal.defs (F := F)) (Cert.KernelIdeal.threads (F := F)) ⟨m, fun _ => 0, ρ⟩
      (fun r => (∀ d : Dev nD, ∀ b ∈ heldSet, r.2.mem (d, b) = V7 m d b) ∧ r.2.sem = fun _ => 0) :=
  SparseCore.Cfg.θ_run_sc_quiescent (K := K (F := F)) (D := D (F := F)) (𝒱 := 𝒱) (EH := EH) (P := P (scores m) (before m)) (A := ∅) facts v₀
    (fun q hq => match q with | 0 => nomatch hq)
    (fun q _ => match q with | 0 => tileObl (scores m) (before m))
    (fun q _ => match q with | 0 => SparseCore.Cfg.VecSplit.of_plain (vecSplit (scores m) (before m)))
    m ρ main (fun d => pipeGhost d) (fun d => StableHlo.held (SparseCore.T d) heldSet (V7 m d)) (u₀ (F := F)) (sep_elim_left.trans (hu₀ (scores m) (before m)))
    (hmain m ρ) (fq m) (hfin m) _ (fun _ h hz => ⟨h, hz⟩)

end Cert.Proof.SegMax

end
-- ==== Proof.Final.lean ====
/-
  What the program's run leaves in memory: its arguments as they were, and the result as the dense call's last total.
-/
module

public import proofs.«01_k».proof.Proof.Run
public import proofs.«01_k».proof.Proof.Gen.Kernel
public import Idealize.ShloMosaic.Lib.Pipeline.ValueKit

@[expose] public section

noncomputable section

namespace Cert.Proof.SegMax

open Cert.KernelIdeal Cert.KernelIdeal.Gen

open Idealize.ShloMosaic Idealize.ShloMosaic.TcCoe
open Idealize.SL.Sem
open Idealize.ShloMosaic.SparseCore.Cfg (HIx)
open Pipeline (Dat Cfg Window)

variable {F : FTy → Type} [FloatOps F]
variable (m : (ℓ : Loc nD τ sig) → Buf (Elt F) ℓ) (ρ : Dev nD → PrngReg)

/-- The host's operations before the calls leave every buffer but their own four as it was. -/
theorem V4_keeps (d : Dev nD) (r : Ref sig .tc) (h : r ∉ ({main_v0, main_v1, main_v2, main_v3} : Finset (Ref sig .tc))) :
    V4 m d (Proc.devRef .tc r) = m (d, Proc.devRef .tc r) := by
  simp only [Finset.mem_insert, Finset.mem_singleton, not_or] at h
  obtain ⟨h0, h1, h2, h3⟩ := h
  unfold V4
  rw [StableHlo.reshape_result_ne _ _ _ _ _ _ _ h3, StableHlo.unary_result_ne _ _ _ _ _ _ h2, StableHlo.reshape_result_ne _ _ _ _ _ _ _ h1,
    StableHlo.unary_result_ne _ _ _ _ _ _ h0]
  rfl

/-- The SparseCore call changes the partial maxima only. -/
theorem V5_keeps (d : Dev nD) (r : Ref sig .tc) (h : r ≠ main_v4) : V5 m d (Proc.devRef .tc r) = V4 m d (Proc.devRef .tc r) :=
  Function.update_of_ne (StableHlo.devRef_ne_of_ne h) _ _

/-- The dense call changes its one result only. -/
theorem V6_keeps (d : Dev nD) (r : Ref sig .tc) (h : r ≠ main_v5) : V6 m d (Proc.devRef .tc r) = V5 m d (Proc.devRef .tc r) :=
  Pipeline.afterRegion_keeps (pdats (V5 m) 0 d) (V5 m d) (kit (F := F)).win.arr_inj (fun _ => rfl) r fun w hw => by
    have key : ∀ w : Fin 4, Pipeline.arrRef spec1 w ≠ main_v5 → (win1 w).isOut = false := by decide
    exact key w (fun e => h (hw.symm.trans e))

/-- The arguments end as they were. -/
theorem V7_keeps (d : Dev nD) (r : Ref sig .tc) (h : r ∉ ({main_v0, main_v1, main_v2, main_v3, main_v4, main_v5, main_v6} : Finset (Ref sig .tc))) :
    V7 m d (Proc.devRef .tc r) = m (d, Proc.devRef .tc r) := by
  simp only [Finset.mem_insert, Finset.mem_singleton, not_or] at h
  obtain ⟨h0, h1, h2, h3, h4, h5, h6⟩ := h
  unfold V7
  rw [StableHlo.reshape_result_ne _ _ _ _ _ _ _ h6, V6_keeps m d r h5, V5_keeps m d r h4]
  exact V4_keeps m d r (by simp only [Finset.mem_insert, Finset.mem_singleton, not_or]; exact ⟨h0, h1, h2, h3⟩)

/-- The dense call leaves its result's one word at the total after its last point. -/
theorem V6_result (d : Dev nD) : V6 m d (Proc.devRef .tc main_v5) = fun _ => accAt (V5 m d) 16 := by
  refine (Pipeline.afterRegion_arr (pdats (V5 m) 0 d) (V5 m d) (kit (F := F)).win.arr_inj 3).trans ?_
  exact (dat (V5 m) d).arrAt_eq_of_after_last 3 (15 : Fin 16)
    ⟨(flush1_3 _).mpr rfl, fun t ht => Fin.ext (by
      have h1 := (flush1_3 t).mp ht
      have h2 : t.val < 16 := t.isLt
      show t.val = 15
      omega), fun a => by
      have key : ∀ a : Fin 2, (win1_3.index (15 : Fin 16) a = 0) ∧ win1_3.xsize (grid1.coords (15 : Fin 16)) a = win1_3.shape.size a := by decide
      exact key a⟩ _ (fun _ => rfl)

/-- The program's result is that word. -/
theorem V7_result (d : Dev nD) : V7 m d (Proc.devRef .tc main_v6) = fun _ => accAt (V5 m d) 16 := by
  unfold V7
  rw [StableHlo.reshape_result, V6_result]
  rfl

/-- The run, at the arguments and the result. -/
theorem run_result [∀ e, Nonempty (Elt F e)] :
    θ_run (Cert.KernelIdeal.defs (F := F)) (Cert.KernelIdeal.threads (F := F)) ⟨m, fun _ => 0, ρ⟩ (fun r => (∀ c : Dev nD,
      r.2.mem ((c.tc : Thread nD τ).loc main_v6) = (fun _ => accAt (V5 m c) 16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (Cert.KernelIdeal.defs (F := F)) _ _).mono (fun r h => ⟨fun c =>
    ⟨(h.1 c (Proc.devRef .tc main_v6) (by decide)).trans (V7_result m c),
      (h.1 c (Proc.devRef .tc main_arg0) (by decide)).trans (V7_keeps m c main_arg0 (by decide)),
      (h.1 c (Proc.devRef .tc main_arg1) (by decide)).trans (V7_keeps m c main_arg1 (by decide)),
      (h.1 c (Proc.devRef .tc main_arg2) (by decide)).trans (V7_keeps m c main_arg2 (by decide)),
      (h.1 c (Proc.devRef .tc main_arg3) (by decide)).trans (V7_keeps m c main_arg3 (by decide))⟩, h.2⟩) (run_main m ρ)

/-- The kernel over exact numbers runs to completion, keeps its arguments and leaves no semaphore up, -/
theorem frame_kernelIdeal : Cert.quiescent_KernelIdeal := fun m ρ _ =>
  (θ_run (Cert.KernelIdeal.defs (F := Ideal)) _ _).mono (fun _ h => ⟨fun c => (h.1 c).2, h.2⟩) (run_result (F := Ideal) m ρ)

/-- and, a weaker statement, under the precondition. -/
theorem frame_kernelIdeal_pre [Cert.Pre_finite.Facts] : Cert.quiescent_KernelIdeal_pre_finite := fun m ρ _ =>
  (θ_run (Cert.KernelIdeal.defs (F := Ideal)) _ _).mono (fun _ h => ⟨fun c => (h.1 c).2, h.2⟩) (run_result (F := Ideal) m ρ)

end Cert.Proof.SegMax

end
-- ==== Proof.Same.lean ====
/-
  The program as written and the program with its operations idealised have the same text: their tables of bodies and
  their threads are the same, so a run of the one is a run of the other.
-/
module

public import proofs.«01_k».proof.Proof.Final
public import proofs.«01_k».proof.Proof.Gen.Kernel

@[expose] public section

namespace Cert.Proof.SegMax

open Idealize.ShloMosaic Idealize.SL.Sem

variable {F : FTy → Type} [FloatOps F]

/-- The SparseCore kernel's body is the same in both programs. -/
theorem scBody_same : @Cert.Kernel.cc0__seg_max_body F _ Cert.Kernel.Gen.facts = @Cert.KernelIdeal.cc0__seg_max_body F _ Cert.KernelIdeal.Gen.facts := by
  rfl

/-- The dense kernel's body is the same in both programs. -/
theorem tcBody_same : @Cert.Kernel.cc1__bce_body F _ Cert.Kernel.Gen.facts = @Cert.KernelIdeal.cc1__bce_body F _ Cert.KernelIdeal.Gen.facts := by
  rfl

/-- The kernels' table of bodies is the same in both programs. -/
theorem defs₀_same : @Cert.Kernel.defs₀ F _ Cert.Kernel.Gen.facts = @Cert.KernelIdeal.defs₀ F _ Cert.KernelIdeal.Gen.facts := by
  funext p ℓ a
  cases p with
  | tc =>
    match ℓ, a with
    | 0, a => rfl
    | 1, (t, s) => rfl
  | scScalar c =>
    match ℓ, a with
    | 0, a => rfl
    | 1, (t, s) => rfl
  | scVector c s =>
    match ℓ, a with
    | 0, a => rfl
    | 1, (t, s) => rfl

/-- The whole tables of bodies, the launch's and the pipeline's labels included, are the same. -/
theorem defs_same : @Cert.Kernel.defs F _ Cert.Kernel.Gen.facts = @Cert.KernelIdeal.defs F _ Cert.KernelIdeal.Gen.facts :=
  congrArg (fun D => (Cert.KernelIdeal.sc (F := F)).defs (Pipeline.defs (Cert.KernelIdeal.pcfgs (F := F)) D)) defs₀_same

/-- The threads of the two programs are the same. -/
theorem threads_same : @Cert.Kernel.threads F _ = @Cert.KernelIdeal.threads F _ := by
  rfl

/-- The exact frame of the program as written. -/
theorem frame_kernel : Cert.quiescent_Kernel (hKernel := Cert.Kernel.Gen.facts) := by
  intro m ρ _
  rw [defs_same, threads_same]
  exact (θ_run Cert.KernelIdeal.defs _ _).mono (fun _ h => ⟨fun c => (h.1 c).2, h.2⟩) (run_result (F := Bits) m ρ)

end Cert.Proof.SegMax

end
-- ==== Proof.RefFrame.lean ====
/-
  The reference runs to completion, keeps its arguments and declares no semaphore.
-/
module

public import proofs.«01_k».proof.Defs
public import proofs.«01_k».proof.Proof.Gen.ReferenceIdeal.Run
public import Idealize.ShloMosaic.Lib.Quiescent

@[expose] public section

namespace Cert.Proof.SegMax

open Idealize.ShloMosaic Idealize.SL.Sem

/-- The exact frame of the reference, -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- and, a weaker statement, under the precondition. -/
theorem frame_reference_pre [Cert.Pre_finite.Facts] :
    Cert.quiescent_ReferenceIdeal_pre_finite (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.SegMax

end
-- ==== Proof.Terms.lean ====
/-
  What one grid point of the dense call adds to the accumulator, over exact numbers: five sums of cross-entropy terms.
-/
module

public import proofs.«01_k».proof.Proof.Region
public import Idealize.ShloMosaic.Lib.IdealHost
public import Idealize.ShloMosaic.Lib.ValueLayout

@[expose] public section

noncomputable section

namespace Cert.Proof.SegMax

open Cert.KernelIdeal Cert.KernelIdeal.Gen

open Idealize.ShloMosaic Idealize.ShloMosaic.ValueIdx

/-- The floor of the clipped logarithms, −100. -/
def logFloor : EReal := Ideal.ofBits .f32 0xC2C80000#32

/-- The number of elements a mean is over, 1048576. -/
def cnt : EReal := Ideal.ofBits .f32 0x49800000#32

/-- A cross-entropy term, before the sign: of the probability `p` and the label `y`, the logarithms clipped from below. -/
def term (p y : EReal) : EReal := y * max (Ideal.log p) logFloor + (1 - y) * max (Ideal.log1p (0 - p)) logFloor

/-- The sum of a 1024 × 16 array, as the dense kernel takes it. -/
theorem total16 (x : FVec Ideal S1024x16 .f32) :
    extractAt ![0, 0, 0] (shapeCast S1x1x1 (multiReduction .add [1, 2] S1 (shapeCast S1x1024x16 x shapeCasts_S1024x16_S1x1024x16) 0x00000000#32
      reduces_S1x1024x16_S1 (.inl rfl) rfl) shapeCasts_S1_S1x1x1) inpos_S1x1x1_p0_0_0 = ∑ i : S1024x16.Idx, x i :=
  (Ideal.multiReduction_add_total (shapeCast S1x1024x16 x shapeCasts_S1024x16_S1x1024x16) _ reduces_S1x1024x16_S1
    (fun b => by obtain rfl : b = 0 := Subsingleton.elim _ _; rfl) (.inl rfl) rfl _).trans
    (Equiv.sum_comp (Shape.reshapeEquiv shapeCasts_S1024x16_S1x1024x16) x)

/-- The sum of a 1024 × 64 array, as the dense kernel takes it. -/
theorem total64 (x : FVec Ideal S1024x64 .f32) :
    extractAt ![0, 0, 0] (shapeCast S1x1x1 (multiReduction .add [1, 2] S1 (shapeCast S1x1024x64 x shapeCasts_S1024x64_S1x1024x64) 0x00000000#32
      reduces_S1x1024x64_S1 (.inl rfl) rfl) shapeCasts_S1_S1x1x1) inpos_S1x1x1_p0_0_0 = ∑ i : S1024x64.Idx, x i :=
  (Ideal.multiReduction_add_total (shapeCast S1x1024x64 x shapeCasts_S1024x64_S1x1024x64) _ reduces_S1x1024x64_S1
    (fun b => by obtain rfl : b = 0 := Subsingleton.elim _ _; rfl) (.inl rfl) rfl _).trans
    (Equiv.sum_comp (Shape.reshapeEquiv shapeCasts_S1024x64_S1x1024x64) x)

/-- Column `l` of the quarter `q` of the 64 columns. -/
def col (q : Fin 4) (l : Fin 16) : Fin 64 := ⟨16 * q.val + l.val, by omega⟩

/-- The sum of the terms of one quarter of the columns. -/
def quarter (y : S1024x64.Idx → EReal) (mx : S4x1024x16.Idx → EReal) (q : Fin 4) : EReal :=
  ∑ r : Fin 1024, ∑ l : Fin 16, term (mx (ix3 q r l)) (y (ix2 r (col q l)))

/-- A quarter's maxima as the kernel slices them out. -/
theorem quarter_mx (mx : S4x1024x16.Idx → EReal) (q : Fin 4) (hs : S4x1024x16.Slices ![q.val, 0, 0] S1x1024x16) (r : Fin 1024) (l : Fin 16) :
    shapeCast S1024x16 (extractStridedSlice S1x1024x16 ![q.val, 0, 0] mx hs) shapeCasts_S1x1024x16_S1024x16 (ix2 r l) = mx (ix3 q r l) :=
  (shapeCast_1ab_ab_apply (extractStridedSlice S1x1024x16 ![q.val, 0, 0] mx hs) shapeCasts_S1x1024x16_S1024x16 r l).trans
    (extractStridedSlice_apply _ _ _ _ _ fun ax => by
      match ax with
      | ⟨0, _⟩ => rfl
      | ⟨1, _⟩ => exact (Nat.zero_add _).symm
      | ⟨2, _⟩ => exact (Nat.zero_add _).symm)

/-- A quarter's labels as the kernel slices them out. -/
theorem quarter_y (y : S1024x64.Idx → EReal) (q : Fin 4) (hs : S1024x64.Slices ![0, 16 * q.val] S1024x16) (r : Fin 1024) (l : Fin 16) :
    extractStridedSlice S1024x16 ![0, 16 * q.val] y hs (ix2 r l) = y (ix2 r (col q l)) :=
  extractStridedSlice_apply _ _ _ _ _ fun ax => by
    match ax with
    | ⟨0, _⟩ => exact (Nat.zero_add _).symm
    | ⟨1, _⟩ => rfl

/-- The quarter's terms summed, as the kernel spells them. -/
theorem quarter_eq (y : FVec Ideal S1024x64 .f32) (mx : FVec Ideal S4x1024x16 .f32) (q : Fin 4) (hs : S4x1024x16.Slices ![q.val, 0, 0] S1x1024x16)
    (hy : S1024x64.Slices ![0, 16 * q.val] S1024x16) :
    (∑ i : S1024x16.Idx, term (shapeCast S1024x16 (extractStridedSlice S1x1024x16 ![q.val, 0, 0] mx hs) shapeCasts_S1x1024x16_S1024x16 i)
      (extractStridedSlice S1024x16 ![0, 16 * q.val] y hy i)) = quarter y mx q :=
  (sum_idx2 _).trans (Finset.sum_congr rfl fun r _ => Finset.sum_congr rfl fun l _ =>
    congrArg₂ term (quarter_mx mx q hs r l) (quarter_y y q hy r l))

/-- The constant 1.0 in the terms. -/
theorem term_eq (p y : EReal) :
    y * max (Ideal.log p) (Ideal.ofBits .f32 0xC2C80000#32) + (Ideal.ofBits .f32 0x3F800000#32 - y) * max (Ideal.log1p (Ideal.ofBits .f32 0x00000000#32 - p)) (Ideal.ofBits .f32 0xC2C80000#32)
      = term p y := by
  rw [Ideal.ofBits_one_f32, Ideal.ofBits_zero_f32]; rfl

/-- The terms of two 1024 × 16 arrays summed, as the kernel spells them. -/
theorem terms16 (P Y : FVec Ideal S1024x16 .f32) :
    extractAt ![0, 0, 0] (shapeCast S1x1x1 (multiReduction .add [1, 2] S1 (shapeCast S1x1024x16
      (addf (mulf Y (maximumf (log P) (broadcast S1024x16 (FloatOps.ofBits .f32 0xC2C80000#32))))
        (mulf (subf (broadcast S1024x16 (FloatOps.ofBits .f32 0x3F800000#32)) Y)
          (maximumf (log1p (subf (broadcast S1024x16 (FloatOps.ofBits .f32 0x00000000#32)) P)) (broadcast S1024x16 (FloatOps.ofBits .f32 0xC2C80000#32)))))
      shapeCasts_S1024x16_S1x1024x16) 0x00000000#32 reduces_S1x1024x16_S1 (.inl rfl) rfl) shapeCasts_S1_S1x1x1) inpos_S1x1x1_p0_0_0
      = ∑ i : S1024x16.Idx, term (P i) (Y i) :=
  (total16 _).trans (Finset.sum_congr rfl fun i _ => term_eq (P i) (Y i))

/-- The terms of two 1024 × 64 arrays summed, as the kernel spells them. -/
theorem terms64 (P Y : FVec Ideal S1024x64 .f32) :
    extractAt ![0, 0, 0] (shapeCast S1x1x1 (multiReduction .add [1, 2] S1 (shapeCast S1x1024x64
      (addf (mulf Y (maximumf (log P) (broadcast S1024x64 (FloatOps.ofBits .f32 0xC2C80000#32))))
        (mulf (subf (broadcast S1024x64 (FloatOps.ofBits .f32 0x3F800000#32)) Y)
          (maximumf (log1p (subf (broadcast S1024x64 (FloatOps.ofBits .f32 0x00000000#32)) P)) (broadcast S1024x64 (FloatOps.ofBits .f32 0xC2C80000#32)))))
      shapeCasts_S1024x64_S1x1024x64) 0x00000000#32 reduces_S1x1024x64_S1 (.inl rfl) rfl) shapeCasts_S1_S1x1x1) inpos_S1x1x1_p0_0_0
      = ∑ i : S1024x64.Idx, term (P i) (Y i) :=
  (total64 _).trans (Finset.sum_congr rfl fun i _ => term_eq (P i) (Y i))

/-- The sum of a block's terms. -/
def blockSum (y p : S1024x64.Idx → EReal) (mx : S4x1024x16.Idx → EReal) : EReal :=
  (∑ i : S1024x64.Idx, term (p i) (y i)) + quarter y mx 0 + quarter y mx 1 + quarter y mx 2 + quarter y mx 3

/-- A grid point adds its block's sum, negated and divided by the number of elements. -/
theorem blockAcc_eq (y p : FVec Ideal S1024x64 .f32) (mx : FVec Ideal S4x1024x16 .f32) (acc : EReal) :
    blockAcc (F := Ideal) y p mx acc = acc + Ideal.div (0 - blockSum y p mx) cnt := by
  have h0 := quarter_eq y mx 0 slices_S4x1024x16_o0_0_0_S1x1024x16 slices_S1024x64_o0_0_S1024x16
  have h1 := quarter_eq y mx 1 slices_S4x1024x16_o1_0_0_S1x1024x16 slices_S1024x64_o0_16_S1024x16
  have h2 := quarter_eq y mx 2 slices_S4x1024x16_o2_0_0_S1x1024x16 slices_S1024x64_o0_32_S1024x16
  have h3 := quarter_eq y mx 3 slices_S4x1024x16_o3_0_0_S1x1024x16 slices_S1024x64_o0_48_S1024x16
  unfold blockSum blockAcc k1_pay1 k1_pay3 k1_pay4 k1_pay6 k1_pay7 k1_pay5 k1_pay2
  simp only [shapeCast_self]
  show acc + Ideal.div (Ideal.ofBits .f32 0x00000000#32 - (_ + _ + _ + _ + _)) cnt = _
  rw [Ideal.ofBits_zero_f32]
  refine congrArg (fun x => acc + Ideal.div (0 - x) cnt) ?_
  exact congrArg₂ (· + ·) (congrArg₂ (· + ·) (congrArg₂ (· + ·) (congrArg₂ (· + ·) (terms64 p y) ((terms16 _ _).trans h0)) ((terms16 _ _).trans h1))
    ((terms16 _ _).trans h2)) ((terms16 _ _).trans h3)

end Cert.Proof.SegMax

end
-- ==== Proof.Maxima.lean ====
/-
  What the SparseCore call leaves, over exact numbers: element (q, R, l) of the partial maxima is the maximum of column
  16 q + l of the section scores over the fifty rows of segment R.
-/
module

public import proofs.«01_k».proof.Proof.Run
public import proofs.«01_k».proof.Proof.Terms

@[expose] public section

noncomputable section

namespace Cert.Proof.SegMax

open Cert.KernelIdeal Cert.KernelIdeal.Gen

open Idealize.ShloMosaic
open Idealize.ShloMosaic.TcCoe Idealize.ShloMosaic.ValueIdx

variable {F : FTy → Type} [FloatOps F]
variable (m : (ℓ : Loc nD τ sig) → Buf (Elt F) ℓ)

/-! ## The flat array of scores -/

/-- The host's layout of the scores: the 64 columns in eights, the rows in runs of 128. -/
def flatten (x : S819200x64.Idx → F .f32) : S52428800.Idx → F .f32 :=
  shapeCast S52428800 (transpose S8x6400x8x128 [0, 2, 1, 3] (shapeCast S8x8x6400x128 (transpose S64x819200 [1, 0] x
    transposes_S819200x64_S64x819200_1_0) shapeCasts_S64x819200_S8x8x6400x128) transposes_S8x8x6400x128_S8x6400x8x128_0_2_1_3)
    shapeCasts_S8x6400x8x128_S52428800

/-- The array that the SparseCore call reads is that layout of the first argument. -/
theorem scores_eq (d : Dev nD) : scores m d = flatten (m (d, Proc.devRef .tc main_arg0)) := by
  unfold scores V4
  rw [StableHlo.reshape_result, StableHlo.unary_result, StableHlo.reshape_result, StableHlo.unary_result]
  rfl

/-- The word of column `8 ti + sub` and row `128 tj + lane`. -/
theorem flatten_apply (x : S819200x64.Idx → F .f32) (ti : Fin 8) (tj : Fin 6400) (sub : Fin 8) (lane : Fin 128) :
    flatten x (flat (((ti.val * 6400 + tj.val) * 8 + sub.val) * 128 + lane.val))
      = x (ix2 (⟨tj.val * 128 + lane.val, by omega⟩ : Fin 819200) (⟨ti.val * 8 + sub.val, by omega⟩ : Fin 64)) := by
  unfold flatten
  refine (shapeCast_apply _ _ _ (ix4 ti tj sub lane) ?_).trans ?_
  · rw [Shape.rowMajor_val_four, Shape.rowMajor_val_one]
    show ((ti.val * 6400 + tj.val) * 8 + sub.val) * 128 + lane.val = (((ti.val * 6400 + tj.val) * 8 + sub.val) * 128 + lane.val) % 52428800
    omega
  refine (transpose_apply _ _ _ _ (ix4 ti sub tj lane) ?_).trans ?_
  · intro b
    match b with
    | ⟨0, _⟩ => rfl
    | ⟨1, _⟩ => rfl
    | ⟨2, _⟩ => rfl
    | ⟨3, _⟩ => rfl
  refine (shapeCast_apply _ _ _ (ix2 (⟨ti.val * 8 + sub.val, by omega⟩ : Fin 64) (⟨tj.val * 128 + lane.val, by omega⟩ : Fin 819200)) ?_).trans ?_
  · rw [Shape.rowMajor_val_four, Shape.rowMajor_val_two]
    show (ti.val * 8 + sub.val) * 819200 + (tj.val * 128 + lane.val) = ((ti.val * 8 + sub.val) * 6400 + tj.val) * 128 + lane.val
    omega
  exact transpose_apply _ _ _ _ _ fun b => by
    match b with
    | ⟨0, _⟩ => rfl
    | ⟨1, _⟩ => rfl

/-- Row `p` of segment `R`. -/
def segRow (R : Fin 16384) (p : Fin 50) : Fin 819200 := ⟨50 * R.val + p.val, by omega⟩

/-- The row a word of the staged block comes from, counted back from the word's place `n`. -/
theorem rowOf_eq {R p n : ℕ} (hn : R % 512 / 32 % 2 * 64 + 50 * (R % 32) + p = n) :
    (R / 512 * 200 + 25 * (R % 512 / 32) / 2 + n / 128) * 128 + n % 128 = 50 * R + p := by
  have hk : ∀ k : ℕ, 25 * k / 2 * 128 + k % 2 * 64 = 1600 * k := fun k => by omega
  have h25 := hk (R % 512 / 32)
  have hR : R = 512 * (R / 512) + (32 * (R % 512 / 32) + R % 32) := by omega
  generalize R % 512 / 32 = k at *
  generalize 25 * k / 2 = u at *
  generalize k % 2 = o at *
  generalize R / 512 = w at *
  generalize R % 32 = r at *
  omega

/-- What a gather of the tile's step reads: row `p` of the segment, at the lane's column. -/
theorem gather_apply (x : S819200x64.Idx → F .f32) (q : Fin 4) (R : Fin 16384) (l : Fin 16) (p : Fin 50) :
    gatV (bufVal (flatten x) (src (R.val / 512) (stepOf (ix3 q R l)))) (base (stepOf (ix3 q R l)) + 50 * (R.val % 32) + p.val)
        (Shape.ofLane (d := ![16]) l) = x (ix2 (segRow R p) (col q l)) := by
  have hs : stepOf (ix3 q R l) = 4 * (R.val % 512 / 32) + q.val := rfl
  rw [hs]
  have hb : base (4 * (R.val % 512 / 32) + q.val) = R.val % 512 / 32 % 2 * 64 := by unfold base; omega
  rw [hb]
  obtain ⟨n, hn⟩ : ∃ n, R.val % 512 / 32 % 2 * 64 + 50 * (R.val % 32) + p.val = n := ⟨_, rfl⟩
  have hn' : n < 1664 := by omega
  rw [hn]
  have ha := flatten_apply x ⟨2 * q.val + l.val / 8, by omega⟩ ⟨R.val / 512 * 200 + 25 * (R.val % 512 / 32) / 2 + n / 128, by omega⟩ ⟨l.val % 8, by omega⟩ ⟨n % 128, by omega⟩
  refine Eq.trans ?_ (ha.trans ?_)
  · refine congrArg (fun k => flatten x (flat k)) ?_
    show src (R.val / 512) (4 * (R.val % 512 / 32) + q.val) + (if word l.val n % 26624 < 13312 then word l.val n % 26624 else word l.val n % 26624 - 13312 + 6553600) = _
    have hw : word l.val n = l.val / 8 * 13312 + (l.val % 8 * 128 + n / 128 * 1024 + n % 128) := by unfold word; omega
    have hlt : word l.val n < 26624 := word_lt l.isLt hn'
    rw [Nat.mod_eq_of_lt hlt]
    have hsrc : src (R.val / 512) (4 * (R.val % 512 / 32) + q.val) = 2 * q.val * 6553600 + (R.val / 512 * 200 + 25 * (R.val % 512 / 32) / 2) * 1024 := by
      unfold src
      rw [show (4 * (R.val % 512 / 32) + q.val) % 4 = q.val by omega, show (4 * (R.val % 512 / 32) + q.val) / 4 = R.val % 512 / 32 by omega]
    rw [hsrc]
    show _ = (((2 * q.val + l.val / 8) * 6400 + (R.val / 512 * 200 + 25 * (R.val % 512 / 32) / 2 + n / 128)) * 8 + l.val % 8) * 128 + n % 128
    split <;> omega
  · refine congrArg x ?_
    have h1 : (R.val / 512 * 200 + 25 * (R.val % 512 / 32) / 2 + n / 128) * 128 + n % 128 = 50 * R.val + p.val := by
      exact rowOf_eq hn
    have h2 : (2 * q.val + l.val / 8) * 8 + l.val % 8 = 16 * q.val + l.val := by omega
    exact congrArg₂ ix2 (Fin.ext h1) (Fin.ext h2)

/-! ## The maximum of fifty -/

/-- The maximum of a column of the scores over the rows of a segment. -/
def segMax (x : S819200x64.Idx → EReal) (R : Fin 16384) (c : Fin 64) : EReal := Finset.univ.sup fun p : Fin 50 => x (ix2 (segRow R p) c)

theorem accV_le (g : ℕ → FVec Ideal S16 .f32) (i : ℕ) (y : S16.Idx) (b : EReal) (k : ℕ) :
    (accV g i k y : EReal) ≤ b ↔ ∀ j ≤ k, (g (i + 4 * j) y : EReal) ≤ b := by
  induction k with
  | zero =>
    constructor
    · intro h j hj
      obtain rfl : j = 0 := by omega
      exact h
    · intro h
      exact h 0 le_rfl
  | succ k ih =>
    have hm : (accV g i (k + 1) y : EReal) = max (accV g i k y) (g (i + 4 * (k + 1)) y) := rfl
    rw [hm, max_le_iff, ih]
    constructor
    · rintro ⟨h1, h2⟩ j hj
      rcases Nat.lt_or_ge j (k + 1) with hlt | hge
      · exact h1 j (by omega)
      · obtain rfl : j = k + 1 := by omega
        exact h2
    · intro h
      exact ⟨fun j hj => h j (by omega), h (k + 1) le_rfl⟩

/-- The program's tree of maxima is the maximum of the fifty. -/
theorem treeV_le (g : ℕ → FVec Ideal S16 .f32) (y : S16.Idx) (b : EReal) : (treeV g y : EReal) ≤ b ↔ ∀ p : Fin 50, (g p.val y : EReal) ≤ b := by
  have hm : (treeV g y : EReal) = max (max (accV g 0 12 y) (accV g 1 12 y)) (max (accV g 2 11 y) (accV g 3 11 y)) := rfl
  rw [hm, max_le_iff, max_le_iff, max_le_iff, accV_le, accV_le, accV_le, accV_le]
  constructor
  · rintro ⟨⟨h0, h1⟩, h2, h3⟩ ⟨p, hp⟩
    have h : p % 4 = 0 ∨ p % 4 = 1 ∨ p % 4 = 2 ∨ p % 4 = 3 := by omega
    show (g p y : EReal) ≤ b
    rcases h with h | h | h | h
    · have e := h0 (p / 4) (by omega); rwa [show 0 + 4 * (p / 4) = p by omega] at e
    · have e := h1 (p / 4) (by omega); rwa [show 1 + 4 * (p / 4) = p by omega] at e
    · have e := h2 (p / 4) (by omega); rwa [show 2 + 4 * (p / 4) = p by omega] at e
    · have e := h3 (p / 4) (by omega); rwa [show 3 + 4 * (p / 4) = p by omega] at e
  · intro h
    exact ⟨⟨fun j hj => h ⟨0 + 4 * j, by omega⟩, fun j hj => h ⟨1 + 4 * j, by omega⟩⟩,
      fun j hj => h ⟨2 + 4 * j, by omega⟩, fun j hj => h ⟨3 + 4 * j, by omega⟩⟩

/-- The partial maxima are the segments' maxima. -/
theorem partials_apply (x : S819200x64.Idx → EReal) (q : Fin 4) (R : Fin 16384) (l : Fin 16) :
    partials (F := Ideal) (flatten (F := Ideal) x) (ix3 q R l) = segMax x R (col q l) := by
  refine eq_of_forall_ge_iff fun b => ?_
  unfold segMax
  rw [Finset.sup_le_iff]
  refine (treeV_le _ _ b).trans ⟨fun h p _ => ?_, fun h p => ?_⟩
  · rw [← gather_apply (F := Ideal) x q R l p]; exact h p
  · exact (gather_apply (F := Ideal) x q R l p).trans_le (h p (Finset.mem_univ p))

end Cert.Proof.SegMax

end
-- ==== Proof.Blocks.lean ====
/-
  The blocks of the dense call, by coordinates: point `t` sees the rows `1024 t …` of each array.
-/
module

public import proofs.«01_k».proof.Proof.Terms
public import Idealize.ShloMosaic.Lib.Pipeline.ValueKit

@[expose] public section

noncomputable section

namespace Cert.Proof.SegMax

open Cert.KernelIdeal Cert.KernelIdeal.Gen

open Idealize.ShloMosaic hiding ix2 ix3
open Idealize.ShloMosaic.TcCoe Idealize.ShloMosaic.ValueIdx

variable {F : FTy → Type} [FloatOps F]

/-- Row `r` of the block of point `t`. -/
def row (t : Fin 16) (r : Fin 1024) : Fin 16384 := ⟨t.val * 1024 + r.val, by omega⟩

theorem index0 : ∀ t : Fin cfg1.N, (cfg1.win 0).index t = ![0, t.val, 0] := by decide +kernel
theorem index1 : ∀ t : Fin cfg1.N, (cfg1.win 1).index t = ![t.val, 0] := by decide +kernel
theorem index2 : ∀ t : Fin cfg1.N, (cfg1.win 2).index t = ![t.val, 0] := by decide +kernel

/-- The partial maxima of a point. -/
theorem mxBlk_apply (W : Valuation τ sig (Elt F)) (t : Fin 16) (q : Fin 4) (r : Fin 1024) (l : Fin 16) :
    mxBlk W t (ix3 q r l) = W (Proc.devRef .tc main_v4) (ix3 q (row t r) l) := by
  have e := index0 t
  refine congrArg (W (Proc.devRef .tc main_v4)) (funext fun a => Fin.ext ?_)
  match a with
  | ⟨0, _⟩ => blk_simp [e]
  | ⟨1, _⟩ => blk_simp [e]; simp [row]
  | ⟨2, _⟩ => blk_simp [e]

/-- The video scores of a point. -/
theorem pBlk_apply (W : Valuation τ sig (Elt F)) (t : Fin 16) (r : Fin 1024) (c : Fin 64) :
    pBlk W t (ix2 r c) = W (Proc.devRef .tc main_arg1) (ix2 (row t r) c) := by
  have e := index1 t
  refine congrArg (W (Proc.devRef .tc main_arg1)) (funext fun a => Fin.ext ?_)
  match a with
  | ⟨0, _⟩ => blk_simp [e]; simp [row]
  | ⟨1, _⟩ => blk_simp [e]

/-- The labels of a point. -/
theorem yBlk_apply (W : Valuation τ sig (Elt F)) (t : Fin 16) (r : Fin 1024) (c : Fin 64) :
    yBlk W t (ix2 r c) = W (Proc.devRef .tc main_arg2) (ix2 (row t r) c) := by
  have e := index2 t
  refine congrArg (W (Proc.devRef .tc main_arg2)) (funext fun a => Fin.ext ?_)
  match a with
  | ⟨0, _⟩ => blk_simp [e]; simp [row]
  | ⟨1, _⟩ => blk_simp [e]

end Cert.Proof.SegMax

end
-- ==== Proof.Finite.lean ====
/-
  The two ways of adding up, over exact numbers: the dense call divides each block's total, the reference divides each
  loss's total. On finite arguments every term is a real number, and the two agree.
-/
module

public import proofs.«01_k».proof.Proof.Maxima
public import proofs.«01_k».proof.Proof.Blocks
public import Mathlib.Algebra.BigOperators.Fin
public import Mathlib.Logic.Equiv.Fin.Basic

@[expose] public section

noncomputable section

namespace Cert.Proof.SegMax

open Cert.KernelIdeal Cert.KernelIdeal.Gen

open Idealize.ShloMosaic hiding ix2 ix3 sum_idx2
open Idealize.ShloMosaic.TcCoe Idealize.ShloMosaic.ValueIdx

/-! ## Finite values -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The floor is the number −100. -/
theorem logFloor_eq : logFloor = ((-100 : ℝ) : EReal) := by
  unfold logFloor; simp [Ideal.ofBits, Ideal.ieee]; rw [← EReal.coe_mul]; norm_num

/-- The count is the number 1048576. -/
theorem cnt_eq : cnt = ((1048576 : ℝ) : EReal) := by
  unfold cnt; simp [Ideal.ofBits, Ideal.ieee]; rw [← EReal.coe_mul]; norm_num

/-- A logarithm of a real number, clipped from below, is a real number. -/
theorem clip_real {x : EReal} (hx : IsReal x) : IsReal (max (Ideal.log x) logFloor) := by
  obtain ⟨r, rfl⟩ := hx
  rw [logFloor_eq]
  have hl : Ideal.log (r : EReal) = if r ≤ 0 then ⊥ else (Real.log r : EReal) := rfl
  rw [hl]
  split
  · exact ⟨-100, max_eq_right bot_le⟩
  · rcases le_total ((Real.log r : ℝ) : EReal) ((-100 : ℝ) : EReal) with h | h
    · exact ⟨-100, max_eq_right h⟩
    · exact ⟨Real.log r, max_eq_left h⟩

/-- A cross-entropy term of real numbers is a real number. -/
theorem term_real {p y : EReal} (hp : IsReal p) (hy : IsReal y) : IsReal (term p y) := by
  have h0 : IsReal 0 := ⟨0, rfl⟩
  have h1 : IsReal 1 := ⟨1, rfl⟩
  have hq : IsReal (1 + (0 - p)) := h1.add (h0.sub hp)
  exact (hy.mul (clip_real hp)).add ((h1.sub hy).mul (clip_real hq))

/-- A segment's maximum of real numbers is a real number. -/
theorem segMax_real {x : S819200x64.Idx → EReal} (hx : ∀ i, IsReal (x i)) (R : Fin 16384) (c : Fin 64) : IsReal (segMax x R c) := by
  obtain ⟨p, _, hp⟩ := Finset.exists_mem_eq_sup (Finset.univ : Finset (Fin 50)) ⟨0, Finset.mem_univ _⟩ fun p : Fin 50 => x (ix2 (segRow R p) c)
  obtain ⟨r, hr⟩ := hx (ix2 (segRow R p) c)
  exact ⟨r, hp.trans hr⟩

/-! ## Sums by blocks and by quarters -/

/-- The rows by blocks. -/
theorem sum_rows {M : Type} [AddCommMonoid M] (f : Fin 16384 → M) : (∑ t : Fin 16, ∑ r : Fin 1024, f (row t r)) = ∑ R : Fin 16384, f R := by
  rw [← Equiv.sum_comp (finProdFinEquiv : Fin 16 × Fin 1024 ≃ Fin (16 * 1024)) f, Fintype.sum_prod_type]
  refine Finset.sum_congr rfl fun t _ => Finset.sum_congr rfl fun r _ => congrArg f (Fin.ext ?_)
  show t.val * 1024 + r.val = r.val + 1024 * t.val
  omega

/-- The columns by quarters. -/
theorem sum_cols {M : Type} [AddCommMonoid M] (f : Fin 64 → M) : (∑ q : Fin 4, ∑ l : Fin 16, f (col q l)) = ∑ c : Fin 64, f c := by
  rw [← Equiv.sum_comp (finProdFinEquiv : Fin 4 × Fin 16 ≃ Fin (4 * 16)) f, Fintype.sum_prod_type]
  refine Finset.sum_congr rfl fun q _ => Finset.sum_congr rfl fun l _ => congrArg f (Fin.ext ?_)
  show 16 * q.val + l.val = l.val + 16 * q.val
  omega

/-- A sum of real numbers, read in the extended reals. -/
theorem coe_sum {ι : Type} [Fintype ι] (f : ι → ℝ) : (∑ i, (f i : EReal)) = ((∑ i, f i : ℝ) : EReal) := by
  classical
  refine Finset.induction_on (Finset.univ : Finset ι) rfl fun a s ha ih => ?_
  rw [Finset.sum_insert ha, Finset.sum_insert ha, ih, EReal.coe_add]

/-- A sum divided by the count, negated. -/
theorem neg_mean (r : ℝ) : Ideal.div (0 - (r : EReal)) cnt = ((-r / 1048576 : ℝ) : EReal) := by
  rw [cnt_eq, Ideal.div_coe (by norm_num)]
  have h : (0 : EReal) - (r : EReal) = ((-r : ℝ) : EReal) := by rw [zero_sub, EReal.coe_neg]
  rw [h, ← EReal.coe_mul, mul_one_div]

/-- A mean, negated. -/
theorem mean_neg (r : ℝ) : -Ideal.div (0 + (r : EReal)) cnt = ((-r / 1048576 : ℝ) : EReal) := by
  rw [cnt_eq, Ideal.div_coe (by norm_num), zero_add, ← EReal.coe_mul, ← EReal.coe_neg]
  congr 1
  ring

/-! ## The accumulator at the end -/

/-- The accumulator after `n` points is the sum of the blocks' shares. -/
theorem accAt_sum (W : Valuation τ sig (Elt Ideal)) (s : Fin 16 → ℝ) (hs : ∀ t, blockSum (yBlk W t) (pBlk W t) (mxBlk W t) = (s t : EReal)) :
    accAt (F := Ideal) W 16 = ((∑ t : Fin 16, -s t / 1048576 : ℝ) : EReal) := by
  have key : ∀ n (hn : n ≤ 16), accAt (F := Ideal) W n = ((∑ t : Fin n, -s (Fin.castLE hn t) / 1048576 : ℝ) : EReal) := by
    intro n
    induction n with
    | zero => intro _; exact Ideal.ofBits_zero_f32
    | succ n ih =>
      intro hn
      rw [Fin.sum_univ_castSucc, EReal.coe_add]
      refine (accAt_succ W (⟨n, hn⟩ : Fin 16)).trans ?_
      refine (blockAcc_eq _ _ _ _).trans ?_
      refine congrArg₂ (· + ·) (ih (Nat.le_of_succ_le hn)) ?_
      exact (congrArg (fun x => Ideal.div (0 - x) cnt) (hs ⟨n, hn⟩)).trans (neg_mean _)
  exact key 16 le_rfl

/-- The dense call's result: the two losses, each negated and divided, added. -/
theorem acc_total (W : Valuation τ sig (Elt Ideal)) (v s : Fin 16384 → Fin 64 → ℝ)
    (hv : ∀ R c, term (W (Proc.devRef .tc main_arg1) (ix2 R c)) (W (Proc.devRef .tc main_arg2) (ix2 R c)) = (v R c : EReal))
    (hs : ∀ R q l, term (W (Proc.devRef .tc main_v4) (ix3 q R l)) (W (Proc.devRef .tc main_arg2) (ix2 R (col q l))) = (s R (col q l) : EReal)) :
    accAt (F := Ideal) W 16 = ((-(∑ R, ∑ c, v R c) / 1048576 + -(∑ R, ∑ c, s R c) / 1048576 : ℝ) : EReal) := by
  have hq : ∀ (t : Fin 16) (q : Fin 4), quarter (yBlk W t) (mxBlk W t) q = ((∑ r : Fin 1024, ∑ l : Fin 16, s (row t r) (col q l) : ℝ) : EReal) := by
    intro t q
    unfold quarter
    rw [← coe_sum]
    refine Finset.sum_congr rfl fun r _ => ?_
    rw [← coe_sum]
    refine Finset.sum_congr rfl fun l _ => ?_
    rw [mxBlk_apply, yBlk_apply]
    exact hs (row t r) q l
  have hb : ∀ t : Fin 16, blockSum (yBlk W t) (pBlk W t) (mxBlk W t)
      = ((∑ r : Fin 1024, ((∑ c, v (row t r) c) + ∑ c, s (row t r) c) : ℝ) : EReal) := by
    intro t
    have h64 : (∑ i : S1024x64.Idx, term (pBlk W t i) (yBlk W t i)) = ((∑ r : Fin 1024, ∑ c : Fin 64, v (row t r) c : ℝ) : EReal) := by
      refine (sum_idx2 _).trans ?_
      rw [← coe_sum]
      refine Finset.sum_congr rfl fun r _ => ?_
      rw [← coe_sum]
      refine Finset.sum_congr rfl fun c _ => ?_
      rw [pBlk_apply, yBlk_apply]
      exact hv (row t r) c
    unfold blockSum
    rw [h64, hq t 0, hq t 1, hq t 2, hq t 3, ← EReal.coe_add, ← EReal.coe_add, ← EReal.coe_add, ← EReal.coe_add]
    refine congrArg _ ?_
    rw [← Finset.sum_add_distrib, ← Finset.sum_add_distrib, ← Finset.sum_add_distrib, ← Finset.sum_add_distrib]
    refine Finset.sum_congr rfl fun r _ => ?_
    rw [← sum_cols (s (row t r)), Fin.sum_univ_four]
    ring
  rw [accAt_sum W _ hb]
  refine congrArg _ ?_
  rw [← Finset.sum_div, Finset.sum_neg_distrib, sum_rows fun R => (∑ c, v R c) + ∑ c, s R c, Finset.sum_add_distrib]
  ring

end Cert.Proof.SegMax

end
-- ==== Proof.RefValue.lean ====
/-
  What the reference computes, over exact numbers: the mean of the terms of each of its two losses, and the maximum of
  each segment by a reduction of the scores cut into segments.
-/
module

public import proofs.«01_k».proof.Proof.Finite
public import proofs.«01_k».proof.Proof.Gen.ReferenceIdeal.Run

@[expose] public section

noncomputable section

namespace Cert.Proof.SegMax

open Cert.ReferenceIdeal Cert.ReferenceIdeal.Gen

open Idealize.ShloMosaic hiding ix2 ix3 sum_idx2
open Idealize.ShloMosaic.TcCoe Idealize.ShloMosaic.ValueIdx

/-- A loss's mean, negated: the reference's operations on an array of probabilities and one of labels. -/
def refLoss (p y : FVec Ideal S16384x64 .f32) : FVec Ideal S_ .f32 :=
  Host.negf (Host.divf (Host.reduceAdd (addf (mulf y (maximumf (broadcastInDim S16384x64 ![] bcast_S_S16384x64 (id (constant S_ .f32 0xC2C80000#32))) (Host.log p)))
    (mulf (subf (broadcastInDim S16384x64 ![] bcast_S_S16384x64 (constant S_ .f32 0x3F800000#32)) y)
      (maximumf (broadcastInDim S16384x64 ![] bcast_S_S16384x64 (id (constant S_ .f32 0xC2C80000#32))) (Host.log1p (Host.negf p)))))
    (constant S_ .f32 0x00000000#32) reducesTo_S16384x64_S_d0_1 h_S_) (constant S_ .f32 0x49800000#32))

/-- The segments' maxima: the reference's operations on the scores. -/
def refMax (x : FVec Ideal S819200x64 .f32) : FVec Ideal S16384x64 .f32 :=
  Host.reduce FloatOps.maximumf (shapeCast _ x shapeCasts_S819200x64_S16384x50x64) (constant S_ .f32 0xFF800000#32) reducesTo_S16384x50x64_S16384x64_d1 h_S_

/-- A loss, from its terms as real numbers. -/
theorem refLoss_apply (p y : FVec Ideal S16384x64 .f32) (v : Fin 16384 → Fin 64 → ℝ) (hv : ∀ R c, term (p (ix2 R c)) (y (ix2 R c)) = (v R c : EReal))
    (j : S_.Idx) : refLoss p y j = ((-(∑ R, ∑ c, v R c) / 1048576 : ℝ) : EReal) := by
  have ht : (∑ i : S16384x64.Idx, term (p i) (y i)) = ((∑ R, ∑ c, v R c : ℝ) : EReal) := by
    refine (sum_idx2 _).trans ?_
    rw [← coe_sum]
    refine Finset.sum_congr rfl fun R _ => ?_
    rw [← coe_sum]
    exact Finset.sum_congr rfl fun c _ => hv R c
  rw [← mean_neg, ← ht]
  refine congrArg (fun s => -Ideal.div s cnt) ?_
  refine (Ideal.hostReduceAdd_total _ (fun b => b.elim0) _ _ _).trans ?_
  refine congrArg₂ (· + ·) Ideal.ofBits_zero_f32 (Finset.sum_congr rfl fun i _ => ?_)
  have e : y i * max (Ideal.ofBits .f32 0xC2C80000#32) (Ideal.log (p i)) + (Ideal.ofBits .f32 0x3F800000#32 - y i) * max (Ideal.ofBits .f32 0xC2C80000#32) (Ideal.log1p (-p i))
      = term (p i) (y i) := by
    rw [← term_eq, Ideal.ofBits_zero_f32, zero_sub, max_comm, max_comm (Ideal.ofBits .f32 0xC2C80000#32) (Ideal.log1p _)]
  exact e

theorem reduces_segments : S16384x50x64.Reduces [1] S16384x64 := by decide

/-- A segment's maximum. -/
theorem refMax_apply (x : FVec Ideal S819200x64 .f32) (R : Fin 16384) (c : Fin 64) : refMax x (ix2 R c) = segMax x R c := by
  refine eq_of_forall_ge_iff fun b => ?_
  unfold refMax segMax
  rw [Host.reduce_eq_fold_single _ _ _ _ reduces_segments, Finset.sup_le_iff]
  refine (Finset.fold_max_le (b := Ideal.ofBits .f32 0xFF800000#32) b).trans ?_
  have hbot : Ideal.ofBits .f32 0xFF800000#32 ≤ b := by simp [Ideal.ofBits, Ideal.ieee]
  have hx : ∀ p : Fin 50, (shapeCast S16384x50x64 x shapeCasts_S819200x64_S16384x50x64 ∘ reduces_segments.lift (ix2 R c)) p = x (ix2 (segRow R p) c) := by
    intro p
    refine shapeCast_apply _ _ _ _ ?_
    have hl : reduces_segments.lift (ix2 R c) p = ix3 R p c := funext fun a => by
      match a with
      | ⟨0, _⟩ => rfl
      | ⟨1, _⟩ => rfl
      | ⟨2, _⟩ => rfl
    rw [hl, Shape.rowMajor_val_two, Shape.rowMajor_val_three]
    show (50 * R.val + p.val) * 64 + c.val = (R.val * 50 + p.val) * 64 + c.val
    omega
  constructor
  · intro h p hp; rw [← hx p]; exact h.2 p hp
  · intro h; exact ⟨hbot, fun p hp => (hx p).trans_le (h p hp)⟩

end Cert.Proof.SegMax

end
-- ==== Proof.Value.lean ====
/-
  The value claim: on finite arguments the kernel and the reference end with the same number.
-/
module

public import proofs.«01_k».proof.Defs
public import proofs.«01_k».proof.Proof.Final
public import proofs.«01_k».proof.Proof.RefValue
public import proofs.«01_k».proof.Proof.Gen.Pre_finite
public import Idealize.ShloMosaic.Lib.ReduceAll

@[expose] public section

noncomputable section

namespace Cert.Proof.SegMax

open Idealize.ShloMosaic hiding ix0 ix2 ix3 sum_idx2
open Idealize.ShloMosaic.TcCoe Idealize.ShloMosaic.ValueIdx Idealize.SL.Sem

/-! ## The precondition -/

/-- A number whose absolute value is below infinity is a real number. -/
theorem real_of_lt {x : EReal} (h : max x (-x) < ⊤) : IsReal x := by
  induction x with
  | bot => simp at h
  | top => simp at h
  | coe r => exact ⟨r, rfl⟩

/-- The comparison that the precondition makes at an element. -/
theorem real_of_cmp {s : Shape} (h : (⟨0, ![]⟩ : Shape).BroadcastsInDim s ![]) (x : FVec Ideal s .f32) (i : s.Idx)
    (e : cmpf .olt (Host.absf x) (broadcastInDim s ![] h (constant (F := Ideal) (⟨0, ![]⟩ : Shape) .f32 0x7F800000#32)) i = 1#1) : IsReal (x i) := by
  have ht : Ideal.ofBits .f32 0x7F800000#32 = ⊤ := by simp [Ideal.ofBits, Ideal.ieee]
  have e' : Ideal.cmp .olt (max (x i) (-x i)) (Ideal.ofBits .f32 0x7F800000#32) = 1#1 := e
  rw [ht] at e'
  refine real_of_lt ?_
  by_contra hn
  simp [Ideal.cmp, hn] at e'

theorem andi_one {a b : BitVec 1} (h : IntOp.andi a b = 1#1) : a = 1#1 ∧ b = 1#1 := by
  revert a b; decide

/-- The precondition says that every element of the three float arrays is a real number. -/
theorem finite_real [Cert.Pre_finite.Facts] (a0 : FVec Ideal Cert.Pre_finite.S819200x64 .f32) (a1 a2 : FVec Ideal Cert.Pre_finite.S16384x64 .f32)
    (a3 : IVec Cert.Pre_finite.S16384x50 32) (h : Cert.Pre_finite.fn (F := Ideal) a0 a1 a2 a3 = fun _ => 1#1) :
    (∀ i, IsReal (a0 i)) ∧ (∀ i, IsReal (a1 i)) ∧ ∀ i, IsReal (a2 i) := by
  have e := congrFun h ix0
  dsimp only [Cert.Pre_finite.fn] at e
  obtain ⟨e01, e2⟩ := andi_one e
  obtain ⟨e0, e1⟩ := andi_one e01
  haveI : Subsingleton Cert.Pre_finite.S_.Idx := ⟨fun i j => funext fun b => b.elim0⟩
  exact ⟨fun i => real_of_cmp _ a0 i (Host.reduce_andi_all _ _ _ _ _ e0 i), fun i => real_of_cmp _ a1 i (Host.reduce_andi_all _ _ _ _ _ e1 i),
    fun i => real_of_cmp _ a2 i (Host.reduce_andi_all _ _ _ _ _ e2 i)⟩

/-! ## The two results -/

/-- On finite arguments the reference's two losses, added, are what the kernel leaves in its accumulator. -/
theorem results_eq (m : (ℓ : Loc Cert.KernelIdeal.nD Cert.KernelIdeal.τ Cert.KernelIdeal.sig) → Buf (Elt Ideal) ℓ) (c : Dev Cert.KernelIdeal.nD)
    (x : FVec Ideal Cert.KernelIdeal.S819200x64 .f32) (p y : FVec Ideal Cert.KernelIdeal.S16384x64 .f32)
    (hx : m (c, Proc.devRef .tc Cert.KernelIdeal.main_arg0) = x) (hp : m (c, Proc.devRef .tc Cert.KernelIdeal.main_arg1) = p)
    (hy : m (c, Proc.devRef .tc Cert.KernelIdeal.main_arg2) = y)
    (fx : ∀ i, IsReal (x i)) (fp : ∀ i, IsReal (p i)) (fy : ∀ i, IsReal (y i)) (j : Cert.ReferenceIdeal.S_.Idx) :
    addf (refLoss p y) (refLoss (refMax x) y) j = accAt (F := Ideal) (V5 m c) 16 := by
  choose v hv using fun (R : Fin 16384) (k : Fin 64) => term_real (fp (ix2 R k)) (fy (ix2 R k))
  choose s hs using fun (R : Fin 16384) (k : Fin 64) => term_real (segMax_real fx R k) (fy (ix2 R k))
  have h1 : V5 m c (Proc.devRef .tc Cert.KernelIdeal.main_arg1) = p := (V5_keeps m c _ (by decide)).trans ((V4_keeps m c _ (by decide)).trans hp)
  have h2 : V5 m c (Proc.devRef .tc Cert.KernelIdeal.main_arg2) = y := (V5_keeps m c _ (by decide)).trans ((V4_keeps m c _ (by decide)).trans hy)
  have h4 : V5 m c (Proc.devRef .tc Cert.KernelIdeal.main_v4) = partials (F := Ideal) (flatten (F := Ideal) x) := by
    refine (Function.update_self _ _ _).trans ?_
    rw [← hx, ← scores_eq]
  have hk := acc_total (V5 m c) v s
    (fun R k => by rw [h1, h2]; exact hv R k)
    (fun R q l => by
      rw [h4, h2]
      refine Eq.trans ?_ (hs R (col q l))
      exact congrArg (fun z => term z _) (partials_apply x q R l))
  rw [hk, EReal.coe_add]
  refine congrArg₂ (· + ·) (refLoss_apply p y v hv j) (refLoss_apply (refMax x) y s (fun R k => ?_) j)
  rw [refMax_apply]
  exact hs R k

/-- The value claim. -/
theorem algebraic [Cert.Pre_finite.Facts] :
    Cert.algebraic_KernelIdeal_ReferenceIdeal_pre_finite (hKernelIdeal := Cert.KernelIdeal.Gen.facts) (hReferenceIdeal := Cert.ReferenceIdeal.Gen.facts) :=
  fun m g m' g' hpre hargs => ⟨fun c _ => accAt (F := Ideal) (V5 m c) 16,
    (θ_run (Cert.KernelIdeal.defs (F := Ideal)) _ _).mono (fun _ h => h.1) (run_result (F := Ideal) m g),
    (θ_run (Cert.ReferenceIdeal.defs (F := Ideal)) _ _).mono (fun r h c => ⟨(h c).1.trans (by
      obtain ⟨f0, f1, f2⟩ := finite_real _ _ _ _ (hpre c)
      obtain ⟨a0, a1, a2, _⟩ := hargs c
      rw [a0, a1, a2]
      exact funext fun j => results_eq m c _ _ _ rfl rfl rfl f0 f1 f2 j), (h c).2⟩) (Cert.ReferenceIdeal.Value.run (F := Ideal) m' g')⟩

end Cert.Proof.SegMax

end
-- ==== Proof.lean ====
/-
  The claims of this certificate, assembled: the runs of the kernel and of the reference, and that they agree.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Same
public import proofs.«01_k».proof.Proof.RefFrame
public import proofs.«01_k».proof.Proof.Value

@[expose] public section

noncomputable section

namespace Cert.Proof

open Idealize.ShloMosaic Idealize.SL.Sem

/-- `Cert.Claim`. -/
theorem claim : Cert.Claim :=
  letI := Cert.Pre_finite.Gen.facts
  ⟨Cert.Kernel.Gen.facts, Cert.KernelIdeal.Gen.facts, Cert.ReferenceIdeal.Gen.facts, Cert.Pre_finite.Gen.facts,
    SegMax.frame_kernel, SegMax.frame_kernelIdeal, SegMax.frame_kernelIdeal_pre, SegMax.frame_reference, SegMax.frame_reference_pre,
    trivial, SegMax.algebraic⟩

end Cert.Proof

end
